-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_table [hPre_finite_table : Cert.Pre_finite_table.Facts] (m : (ℓ : Loc Cert.KernelIdeal.nD Cert.KernelIdeal.τ Cert.KernelIdeal.sig) → Buf (Elt Ideal) ℓ) : Prop :=
  ∀ c : Dev Cert.KernelIdeal.nD,
    (Cert.Pre_finite_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_table [hPre_finite_table : Cert.Pre_finite_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_table [hKernelIdeal : Cert.KernelIdeal.Facts] [hPre_finite_table : Cert.Pre_finite_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_table [hReferenceIdeal : Cert.ReferenceIdeal.Facts] [hPre_finite_table : Cert.Pre_finite_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_table [hKernelIdeal : Cert.KernelIdeal.Facts] [hReferenceIdeal : Cert.ReferenceIdeal.Facts] [hPre_finite_table : Cert.Pre_finite_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_table : Cert.Pre_finite_table.Facts),
    quiescent_Kernel (hKernel := hKernel)
    ∧ quiescent_KernelIdeal (hKernelIdeal := hKernelIdeal)
    ∧ quiescent_KernelIdeal_pre_finite_table (hKernelIdeal := hKernelIdeal) (hPre_finite_table := hPre_finite_table)
    ∧ quiescent_ReferenceIdeal (hReferenceIdeal := hReferenceIdeal)
    ∧ quiescent_ReferenceIdeal_pre_finite_table (hReferenceIdeal := hReferenceIdeal) (hPre_finite_table := hPre_finite_table)
    ∧ preserves_Kernel_KernelIdeal
    ∧ algebraic_KernelIdeal_ReferenceIdeal_pre_finite_table (hKernelIdeal := hKernelIdeal) (hReferenceIdeal := hReferenceIdeal) (hPre_finite_table := hPre_finite_table)
-- ==== Pre_finite_table.lean ====
abbrev S1024x64 : Shape := ⟨2, ![1024, 64]⟩
abbrev S1024 : Shape := ⟨1, ![1024]⟩
abbrev S1024x2 : Shape := ⟨2, ![1024, 2]⟩
abbrev S_ : Shape := ⟨0, ![]⟩
abbrev S100000x64 : Shape := ⟨2, ![100000, 64]⟩
abbrev S5000x64 : Shape := ⟨2, ![5000, 64]⟩
abbrev S105000 : Shape := ⟨1, ![105000]⟩

class Facts : Prop where
  bcast_S_S1024x64 : S_.BroadcastsInDim S1024x64 (![] : Fin 0 → Fin S1024x64.rank)
  bcast_S_S100000x64 : S_.BroadcastsInDim S100000x64 (![] : Fin 0 → Fin S100000x64.rank)
  bcast_S_S5000x64 : S_.BroadcastsInDim S5000x64 (![] : Fin 0 → Fin S5000x64.rank)
  bcast_S_S1024 : S_.BroadcastsInDim S1024 (![] : Fin 0 → Fin S1024.rank)

variable [Facts]

def fn {F : FTy → Type} [FloatOps F] (main_arg0 : FVec F S1024x64 .f32) (main_arg1 : IVec S1024 32) (main_arg2 : FVec F S1024x2 .f32) (main_arg3 : IVec S_ 32) (main_arg4 : FVec F S100000x64 .f32) (main_arg5 : FVec F S5000x64 .f32) (main_arg6 : FVec F S105000 .f32) : IVec S1024x64 1 × IVec S100000x64 1 × IVec S5000x64 1 × IVec S1024 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_v3 : FVec F S100000x64 .f32 := Host.absf main_arg4
  let main_cst_0 : FVec F S_ .f32 := constant S_ .f32 0x7F800000#32
  let main_v4 : FVec F S100000x64 .f32 := broadcastInDim S100000x64 ![] bcast_S_S100000x64 main_cst_0
  let main_v5 : IVec S100000x64 1 := cmpf .olt main_v3 main_v4
  let main_v6 : FVec F S5000x64 .f32 := Host.absf main_arg5
  let main_cst_1 : FVec F S_ .f32 := constant S_ .f32 0x7F800000#32
  let main_v7 : FVec F S5000x64 .f32 := broadcastInDim S5000x64 ![] bcast_S_S5000x64 main_cst_1
  let main_v8 : IVec S5000x64 1 := cmpf .olt main_v6 main_v7
  let main_c : IVec S_ 32 := constantI S_ 32 100000#32
  let main_v9 : IVec S1024 32 := broadcastInDim S1024 ![] bcast_S_S1024 main_c
  let main_v10 : IVec S1024 1 := cmpi .slt main_arg1 main_v9
  (main_v2, main_v5, main_v8, main_v10)
-- ==== Kernel.lean ====
abbrev S1024x64 : Shape := ⟨2, ![1024, 64]⟩
abbrev S1024 : Shape := ⟨1, ![1024]⟩
abbrev S1024x2 : Shape := ⟨2, ![1024, 2]⟩
abbrev S_ : Shape := ⟨0, ![]⟩
abbrev S100000x64 : Shape := ⟨2, ![100000, 64]⟩
abbrev S5000x64 : Shape := ⟨2, ![5000, 64]⟩
abbrev S105000 : Shape := ⟨1, ![105000]⟩
abbrev S1024x1 : Shape := ⟨2, ![1024, 1]⟩
abbrev S64x1024 : Shape := ⟨2, ![64, 1024]⟩
abbrev S64x100000 : Shape := ⟨2, ![64, 100000]⟩
abbrev S1696x64 : Shape := ⟨2, ![1696, 64]⟩
abbrev S1496x64 : Shape := ⟨2, ![1496, 64]⟩
abbrev S8192x64 : Shape := ⟨2, ![8192, 64]⟩
abbrev S64x8192 : Shape := ⟨2, ![64, 8192]⟩
abbrev S1 : Shape := ⟨1, ![1]⟩
abbrev S1x1 : Shape := ⟨2, ![1, 1]⟩
abbrev S1x1024 : Shape := ⟨2, ![1, 1024]⟩
abbrev S105000x1024 : Shape := ⟨2, ![105000, 1024]⟩
abbrev S2048x1024 : Shape := ⟨2, ![2048, 1024]⟩
abbrev S64x2048 : Shape := ⟨2, ![64, 2048]⟩
abbrev S2048x1 : Shape := ⟨2, ![2048, 1]⟩
abbrev S1024x105000 : Shape := ⟨2, ![1024, 105000]⟩

abbrev nBuf : Space → Nat
  | .hbm => 96
  | .vmem => 10
  | .smem => 0
  | _ => 0

abbrev bufTy : (tb : Table) → Fin (tcTables nBuf tb) → BufTy
  | .hbm, ⟨0, _⟩ => ⟨S1024x64, .f32⟩
  | .hbm, ⟨1, _⟩ => ⟨S1024, .i32⟩
  | .hbm, ⟨2, _⟩ => ⟨S1024x2, .f32⟩
  | .hbm, ⟨3, _⟩ => ⟨S_, .i32⟩
  | .hbm, ⟨4, _⟩ => ⟨S100000x64, .f32⟩
  | .hbm, ⟨5, _⟩ => ⟨S5000x64, .f32⟩
  | .hbm, ⟨6, _⟩ => ⟨S105000, .f32⟩
  | .hbm, ⟨7, _⟩ => ⟨S1024x1, .f32⟩
  | .hbm, ⟨8, _⟩ => ⟨S1024, .f32⟩
  | .hbm, ⟨9, _⟩ => ⟨S1024x1, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .i1⟩
  | .hbm, ⟨31, _⟩ => ⟨S_, .f32⟩
  | .hbm, ⟨32, _⟩ => ⟨S1024, .f32⟩
  | .hbm, ⟨33, _⟩ => ⟨S1024, .i1⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i1⟩
  | .hbm, ⟨38, _⟩ => ⟨S1024, .i1⟩
  | .hbm, ⟨39, _⟩ => ⟨S_, .i32⟩
  | .hbm, ⟨40, _⟩ => ⟨S_, .i32⟩
  | .hbm, ⟨41, _⟩ => ⟨S1024, .i32⟩
  | .hbm, ⟨42, _⟩ => ⟨S1024, .i32⟩
  | .hbm, ⟨43, _⟩ => ⟨S_, .i32⟩
  | .hbm, ⟨44, _⟩ => ⟨S1024, .i32⟩
  | .hbm, ⟨45, _⟩ => ⟨S1024, .i1⟩
  | .hbm, ⟨46, _⟩ => ⟨S_, .i32⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S_, .i32⟩
  | .hbm, ⟨51, _⟩ => ⟨S1024, .i32⟩
  | .hbm, ⟨52, _⟩ => ⟨S1024, .i1⟩
  | .hbm, ⟨53, _⟩ => ⟨S_, .i32⟩
  | .hbm, ⟨54, _⟩ => ⟨S1024, .i32⟩
  | .hbm, ⟨55, _⟩ => ⟨S1024, .i32⟩
  | .hbm, ⟨56, _⟩ => ⟨S1024, .i32⟩
  | .hbm, ⟨57, _⟩ => ⟨S1024x1, .i32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S64x1024, .f32⟩
  | .hbm, ⟨62, _⟩ => ⟨S64x100000, .f32⟩
  | .hbm, ⟨63, _⟩ => ⟨S1696x64, .f32⟩
  | .hbm, ⟨64, _⟩ => ⟨S_, .f32⟩
  | .hbm, ⟨65, _⟩ => ⟨S1496x64, .f32⟩
  | .hbm, ⟨66, _⟩ => ⟨S8192x64, .f32⟩
  | .hbm, ⟨67, _⟩ => ⟨S64x8192, .f32⟩
  | .hbm, ⟨68, _⟩ => ⟨S_, .i32⟩
  | .hbm, ⟨69, _⟩ => ⟨S1024, .i32⟩
  | .hbm, ⟨70, _⟩ => ⟨S1024, .i1⟩
  | .hbm, ⟨71, _⟩ => ⟨S_, .i32⟩
  | .hbm, ⟨72, _⟩ => ⟨S1024, .i32⟩
  | .hbm, ⟨73, _⟩ => ⟨S1024, .i32⟩
  | .hbm, ⟨74, _⟩ => ⟨S1024, .i32⟩
  | .hbm, ⟨75, _⟩ => ⟨S1024x1, .i32⟩
  | .hbm, ⟨76, _⟩ => ⟨S1, .i32⟩
  | .hbm, ⟨77, _⟩ => ⟨S_, .i32⟩
  | .hbm, ⟨78, _⟩ => ⟨S1024x1, .i32⟩
  | .hbm, ⟨79, _⟩ => ⟨S1024x1, .i1⟩
  | .hbm, ⟨80, _⟩ => ⟨S1x1, .i32⟩
  | .hbm, ⟨81, _⟩ => ⟨S1024x1, .i32⟩
  | .hbm, ⟨82, _⟩ => ⟨S1024x1, .i1⟩
  | .hbm, ⟨83, _⟩ => ⟨S1024x1, .i1⟩
  | .hbm, ⟨84, _⟩ => ⟨S_, .i1⟩
  | .hbm, ⟨85, _⟩ => ⟨S1024, .i1⟩
  | .hbm, ⟨86, _⟩ => ⟨S64x1024, .f32⟩
  | .hbm, ⟨87, _⟩ => ⟨S64x1024, .i1⟩
  | .hbm, ⟨88, _⟩ => ⟨S_, .f32⟩
  | .hbm, ⟨89, _⟩ => ⟨S64x1024, .f32⟩
  | .hbm, ⟨90, _⟩ => ⟨S64x1024, .f32⟩
  | .hbm, ⟨91, _⟩ => ⟨S1x1024, .f32⟩
  | .hbm, ⟨92, _⟩ => ⟨S105000x1024, .f32⟩
  | .hbm, ⟨93, _⟩ => ⟨S1x1, .f32⟩
  | .hbm, ⟨94, _⟩ => ⟨S_, .f32⟩
  | .hbm, ⟨95, _⟩ => ⟨S1024x105000, .f32⟩
  | .local _ .vmem, ⟨0, _⟩ => ⟨S64x1024, .f32⟩
  | .local _ .vmem, ⟨1, _⟩ => ⟨S64x100000, .f32⟩
  | .local _ .vmem, ⟨2, _⟩ => ⟨S64x8192, .f32⟩
  | .local _ .vmem, ⟨3, _⟩ => ⟨S64x1024, .f32⟩
  | .local _ .vmem, ⟨4, _⟩ => ⟨S1x1024, .f32⟩
  | .local _ .vmem, ⟨5, _⟩ => ⟨S2048x1024, .f32⟩
  | .local _ .vmem, ⟨6, _⟩ => ⟨S2048x1024, .f32⟩
  | .local _ .vmem, ⟨7, _⟩ => ⟨S1x1, .f32⟩
  | .local _ .vmem, ⟨8, _⟩ => ⟨S1x1024, .f32⟩
  | .local _ .vmem, ⟨9, _⟩ => ⟨S1x1024, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_call0_v0 : Ref sig .tc := ⟨.hbm, 40, rfl⟩
abbrev main_call0_v1 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_call1_v0 : Ref sig .tc := ⟨.hbm, 47, rfl⟩
abbrev main_call1_v1 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v45 : Ref sig .tc := ⟨.hbm, 90, rfl⟩
abbrev main_v46 : Ref sig .tc := ⟨.hbm, 91, rfl⟩
abbrev main_v47_0 : Ref sig .tc := ⟨.hbm, 92, rfl⟩
abbrev main_v47_1 : Ref sig .tc := ⟨.hbm, 93, rfl⟩
abbrev main_v48 : Ref sig .tc := ⟨.hbm, 94, rfl⟩
abbrev main_v49 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7

abbrev nD : Nat := 1
abbrev τ : Topo := Topo.v7x

variable {F : FTy → Type} [FloatOps F]

abbrev grid0 : Pipeline.Grid := ⟨1, ![52], ![false]⟩

def k0_cond2 (i : grid0.Coords) : BitVec 1 :=
  let arg0 : BitVec 32 := BitVec.ofNat 32 (i 0).val
  let c48_i32 : BitVec 32 := 48#32
  let v3 : BitVec 1 := Scalar.cmpi .slt arg0 c48_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let c0_7 : Index := 0#32
  let arg0 : BitVec 32 := BitVec.ofNat 32 (i 0).val
  let c47_i32 : BitVec 32 := 47#32
  let v16 : BitVec 32 := Scalar.minsi arg0 c47_i32
  let c2048_i32 : BitVec 32 := 2048#32
  let v17 : BitVec 32 := Scalar.muli v16 c2048_i32
  let v18 : Index := Scalar.indexCast v17
  ![0, v18.toNat]
def k0_cond3 (i : grid0.Coords) : BitVec 1 :=
  let arg0 : BitVec 32 := BitVec.ofNat 32 (i 0).val
  let c48_i32_2 : BitVec 32 := 48#32
  let v6 : BitVec 1 := Scalar.cmpi .sge arg0 c48_i32_2
  let c51_i32 : BitVec 32 := 51#32
  let v7 : BitVec 1 := Scalar.cmpi .slt arg0 c51_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off2 (i : grid0.Coords) : Fin 2 → Nat :=
  let c0_9 : Index := 0#32
  let c3_i32 : BitVec 32 := 3#32
  let c0_i32_8 : BitVec 32 := 0#32
  let arg0 : BitVec 32 := BitVec.ofNat 32 (i 0).val
  let c48_i32_7 : BitVec 32 := 48#32
  let v16 : BitVec 32 := Scalar.subi arg0 c48_i32_7
  let v17 : BitVec 32 := Scalar.maxsi c0_i32_8 v16
  let v18 : BitVec 32 := Scalar.minsi c3_i32 v17
  let c2048_i32 : BitVec 32 := 2048#32
  let v19 : BitVec 32 := Scalar.muli v18 c2048_i32
  let v20 : Index := Scalar.indexCast v19
  ![0, v20.toNat]
def k0_cond4 (i : grid0.Coords) : BitVec 1 :=
  let arg0 : BitVec 32 := BitVec.ofNat 32 (i 0).val
  let c51_i32_4 : BitVec 32 := 51#32
  let v11 : BitVec 1 := Scalar.cmpi .eq arg0 c51_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x100000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1024x64 : Shape := ⟨2, ![1024, 64]⟩
abbrev S1024 : Shape := ⟨1, ![1024]⟩
abbrev S1024x2 : Shape := ⟨2, ![1024, 2]⟩
abbrev S_ : Shape := ⟨0, ![]⟩
abbrev S100000x64 : Shape := ⟨2, ![100000, 64]⟩
abbrev S5000x64 : Shape := ⟨2, ![5000, 64]⟩
abbrev S105000 : Shape := ⟨1, ![105000]⟩
abbrev S1024x1 : Shape := ⟨2, ![1024, 1]⟩
abbrev S105000x64 : Shape := ⟨2, ![105000, 64]⟩
abbrev S64x105000 : Shape := ⟨2, ![64, 105000]⟩
abbrev S1024x105000 : Shape := ⟨2, ![1024, 105000]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 115
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024, .i32⟩
  | .hbm, ⟨2, _⟩ => ⟨S1024x2, .f32⟩
  | .hbm, ⟨3, _⟩ => ⟨S_, .i32⟩
  | .hbm, ⟨4, _⟩ => ⟨S100000x64, .f32⟩
  | .hbm, ⟨5, _⟩ => ⟨S5000x64, .f32⟩
  | .hbm, ⟨6, _⟩ => ⟨S105000, .f32⟩
  | .hbm, ⟨7, _⟩ => ⟨S1024x1, .f32⟩
  | .hbm, ⟨8, _⟩ => ⟨S1024, .f32⟩
  | .hbm, ⟨9, _⟩ => ⟨S1024x1, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .i1⟩
  | .hbm, ⟨31, _⟩ => ⟨S_, .f32⟩
  | .hbm, ⟨32, _⟩ => ⟨S1024, .f32⟩
  | .hbm, ⟨33, _⟩ => ⟨S1024, .i1⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i1⟩
  | .hbm, ⟨38, _⟩ => ⟨S105000x64, .f32⟩
  | .hbm, ⟨39, _⟩ => ⟨S64x105000, .f32⟩
  | .hbm, ⟨40, _⟩ => ⟨S1024x105000, .f32⟩
  | .hbm, ⟨41, _⟩ => ⟨S_, .f32⟩
  | .hbm, ⟨42, _⟩ => ⟨S1024x105000, .f32⟩
  | .hbm, ⟨43, _⟩ => ⟨S1024x105000, .f32⟩
  | .hbm, ⟨44, _⟩ => ⟨S1024, .i1⟩
  | .hbm, ⟨45, _⟩ => ⟨S_, .i32⟩
  | .hbm, ⟨46, _⟩ => ⟨S_, .i32⟩
  | .hbm, ⟨47, _⟩ => ⟨S1024, .i32⟩
  | .hbm, ⟨48, _⟩ => ⟨S1024, .i32⟩
  | .hbm, ⟨49, _⟩ => ⟨S_, .i32⟩
  | .hbm, ⟨50, _⟩ => ⟨S1024, .i32⟩
  | .hbm, ⟨51, _⟩ => ⟨S1024, .i1⟩
  | .hbm, ⟨52, _⟩ => ⟨S_, .i32⟩
  | .hbm, ⟨53, _⟩ => ⟨S_, .i32⟩
  | .hbm, ⟨54, _⟩ => ⟨S1024, .i32⟩
  | .hbm, ⟨55, _⟩ => ⟨S1024, .i32⟩
  | .hbm, ⟨56, _⟩ => ⟨S_, .f32⟩
  | .hbm, ⟨57, _⟩ => ⟨S1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1024x1, .f32⟩
  | .hbm, ⟨62, _⟩ => ⟨S1024x105000, .f32⟩
  | .hbm, ⟨63, _⟩ => ⟨S1024x105000, .f32⟩
  | .hbm, ⟨64, _⟩ => ⟨S1024x105000, .f32⟩
  | .hbm, ⟨65, _⟩ => ⟨S_, .f32⟩
  | .hbm, ⟨66, _⟩ => ⟨S1024, .f32⟩
  | .hbm, ⟨67, _⟩ => ⟨S1024x1, .f32⟩
  | .hbm, ⟨68, _⟩ => ⟨S1024x1, .f32⟩
  | .hbm, ⟨69, _⟩ => ⟨S1024x105000, .f32⟩
  | .hbm, ⟨70, _⟩ => ⟨S1024x105000, .f32⟩
  | .hbm, ⟨71, _⟩ => ⟨S1024x1, .i32⟩
  | .hbm, ⟨72, _⟩ => ⟨S_, .i32⟩
  | .hbm, ⟨73, _⟩ => ⟨S1024x1, .i32⟩
  | .hbm, ⟨74, _⟩ => ⟨S1024x1, .i1⟩
  | .hbm, ⟨75, _⟩ => ⟨S_, .i32⟩
  | .hbm, ⟨76, _⟩ => ⟨S1024x1, .i32⟩
  | .hbm, ⟨77, _⟩ => ⟨S1024x1, .i32⟩
  | .hbm, ⟨78, _⟩ => ⟨S1024x1, .i32⟩
  | .hbm, ⟨79, _⟩ => ⟨S1024x1x1, .i32⟩
  | .hbm, ⟨80, _⟩ => ⟨S1, .i32⟩
  | .hbm, ⟨81, _⟩ => ⟨S_, .i32⟩
  | .hbm, ⟨82, _⟩ => ⟨S1024x1x1, .i32⟩
  | .hbm, ⟨83, _⟩ => ⟨S1024x1x1, .i1⟩
  | .hbm, ⟨84, _⟩ => ⟨S1x1x1, .i32⟩
  | .hbm, ⟨85, _⟩ => ⟨S1024x1x1, .i32⟩
  | .hbm, ⟨86, _⟩ => ⟨S1024x1x1, .i1⟩
  | .hbm, ⟨87, _⟩ => ⟨S1024x1x1, .i1⟩
  | .hbm, ⟨88, _⟩ => ⟨S_, .i1⟩
  | .hbm, ⟨89, _⟩ => ⟨S1024x1, .i1⟩
  | .hbm, ⟨90, _⟩ => ⟨S1024x1, .f32⟩
  | .hbm, ⟨91, _⟩ => ⟨S_, .f32⟩
  | .hbm, ⟨92, _⟩ => ⟨S1024x1, .f32⟩
  | .hbm, ⟨93, _⟩ => ⟨S1024x1, .f32⟩
  | .hbm, ⟨94, _⟩ => ⟨S1024, .f32⟩
  | .hbm, ⟨95, _⟩ => ⟨S1024, .f32⟩
  | .hbm, ⟨96, _⟩ => ⟨S_, .i32⟩
  | .hbm, ⟨97, _⟩ => ⟨S1024, .i32⟩
  | .hbm, ⟨98, _⟩ => ⟨S1024, .i1⟩
  | .hbm, ⟨99, _⟩ => ⟨S_, .i32⟩
  | .hbm, ⟨100, _⟩ => ⟨S1024, .i32⟩
  | .hbm, ⟨101, _⟩ => ⟨S1024, .i32⟩
  | .hbm, ⟨102, _⟩ => ⟨S1024, .i32⟩
  | .hbm, ⟨103, _⟩ => ⟨S1024x1, .i32⟩
  | .hbm, ⟨104, _⟩ => ⟨S1024, .f32⟩
  | .hbm, ⟨105, _⟩ => ⟨S1024, .f32⟩
  | .hbm, ⟨106, _⟩ => ⟨S1024, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S1024, .f32⟩
  | .hbm, ⟨112, _⟩ => ⟨S_, .f32⟩
  | .hbm, ⟨113, _⟩ => ⟨S_, .f32⟩
  | .hbm, ⟨114, _⟩ => ⟨S_, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_call0_v0 : Ref sig .tc := ⟨.hbm, 46, rfl⟩
abbrev main_call0_v1 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_call1_v0 : Ref sig .tc := ⟨.hbm, 53, rfl⟩
abbrev main_call1_v1 : Ref sig .tc := ⟨.hbm, 54, rfl⟩
abbrev main_v34 : Ref sig .tc := ⟨.hbm, 55, rfl⟩
abbrev main_call2_cst : Ref sig .tc := ⟨.hbm, 56, rfl⟩
abbrev main_call2_v0 : Ref sig .tc := ⟨.hbm, 57, rfl⟩
abbrev main_call2_cst_0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_v6 : Ref sig .tc := ⟨.hbm, 64, rfl⟩
abbrev main_call2_cst_1 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_v35 : Ref sig .tc := ⟨.hbm, 70, rfl⟩
abbrev main_v36 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_c_1 : Ref sig .tc := ⟨.hbm, 80, rfl⟩
abbrev main_call3_c_2 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_3 : Ref sig .tc := ⟨.hbm, 88, rfl⟩
abbrev main_call3_v12 : Ref sig .tc := ⟨.hbm, 89, rfl⟩
abbrev main_call3_v13 : Ref sig .tc := ⟨.hbm, 90, rfl⟩
abbrev main_call3_cst : Ref sig .tc := ⟨.hbm, 91, rfl⟩
abbrev main_call3_v14 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_c_8 : Ref sig .tc := ⟨.hbm, 96, rfl⟩
abbrev main_v40 : Ref sig .tc := ⟨.hbm, 97, rfl⟩
abbrev main_v41 : Ref sig .tc := ⟨.hbm, 98, rfl⟩
abbrev main_c_9 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_cst_10 : Ref sig .tc := ⟨.hbm, 107, rfl⟩
abbrev main_v49 : Ref sig .tc := ⟨.hbm, 108, rfl⟩
abbrev main_cst_11 : Ref sig .tc := ⟨.hbm, 109, rfl⟩
abbrev main_v50 : Ref sig .tc := ⟨.hbm, 110, rfl⟩
abbrev main_v51 : Ref sig .tc := ⟨.hbm, 111, rfl⟩
abbrev main_cst_12 : Ref sig .tc := ⟨.hbm, 112, rfl⟩
abbrev main_v52 : Ref sig .tc := ⟨.hbm, 113, rfl⟩
abbrev main_v53 : Ref sig .tc := ⟨.hbm, 114, rfl⟩

abbrev nD : Nat := 1
abbrev τ : Topo := Topo.v7x

variable {F : FTy → Type} [FloatOps F]
-- ==== Proof.Bodies.lean ====
/-
  What one grid step leaves: for each of the four cases of the kernel's body (the first step, the other steps that read
  the first table operand, the steps that read the second one, the last step), the block of logits, the running maximum
  and the running sum of exponentials — and, at the last step, the loss — as the body's own named terms of the arrays it
  reads and of what the step before left.
-/
module

public import proofs.«01_k».proof.Defs
public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.KernelIdeal.Bodies

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (a1 : Memref sig .tc .vmem S64x1024 .f32) (h1 : a1.IsWhole) (a2 : Memref sig .tc .vmem S64x100000 .f32) (h2 : a2.IsWhole)
  (a3 : Memref sig .tc .vmem S64x8192 .f32) (h3 : a3.IsWhole) (a4 : Memref sig .tc .vmem S64x1024 .f32) (h4 : a4.IsWhole)
  (a5 : Memref sig .tc .vmem S1x1024 .f32) (h5 : a5.IsWhole) (a6 : Memref sig .tc .vmem S2048x1024 .f32) (h6 : a6.IsWhole)
  (a7 : Memref sig .tc .vmem S1x1 .f32) (h7 : a7.IsWhole) (a8 : Memref sig .tc .vmem S1x1024 .f32) (h8 : a8.IsWhole)
  (a9 : Memref sig .tc .vmem S1x1024 .f32) (h9 : a9.IsWhole)
  (x0 : Vec F S64x1024 .f32) (x1 : Vec F S64x100000 .f32) (x2 : Vec F S64x8192 .f32) (x3 : Vec F S64x1024 .f32)
  (x4 : Vec F S1x1024 .f32) (s0 s1 : Vec F S1x1024 .f32)

/-- The columns of the first table operand that step `i` reads. -/
def cols1 (h : cond0_1 i) (x1 : Vec F S64x100000 .f32) : Vec F S64x2048 .f32 := View.ld x1 (Rect.unit (s := S64x100000) (k0_off1 i) S64x2048.size (k0_off1_inb i h))

/-- The columns of the second table operand that step `i` reads. -/
def cols2 (h : cond0_2 i) (x2 : Vec F S64x8192 .f32) : Vec F S64x2048 .f32 := View.ld x2 (Rect.unit (s := S64x8192) (k0_off2 i) S64x2048.size (k0_off2_inb i h))

/-- The columns of the second table operand that the last step reads. -/
def cols3 (x2 : Vec F S64x8192 .f32) : Vec F S64x2048 .f32 := View.ld x2 (Rect.unit (s := S64x8192) ![0, 6144] S64x2048.size inb_S64x8192_S64x2048_0_6144)

/-- The first step: the logits of the rows it reads, and the maximum and the sum begun from minus infinity and zero. -/
theorem case_A (k0 : cond0_0 i) (k1 : cond0_1 i) (k2 : ¬cond0_2 i) (k3 : ¬cond0_3 i) :
    out0_A_5 c i a1 h1 a2 h2 a3 h3 a4 h4 a5 h5 a6 h6 a7 h7 a8 h8 a9 h9 k0 k1 k2 k3 x0 x1 x2 x3 x4 = (k0_pay5 x0 (cols1 i k1 x1))
    ∧ sout0_A_0 c i a1 h1 a2 h2 a3 h3 a4 h4 a5 h5 a6 h6 a7 h7 a8 h8 a9 h9 k0 k1 k2 k3 x0 x1 x2 x3 x4 = k0_pay9 (k0_pay5 x0 (cols1 i k1 x1)) k0_pay1
    ∧ sout0_A_1 c i a1 h1 a2 h2 a3 h3 a4 h4 a5 h5 a6 h6 a7 h7 a8 h8 a9 h9 k0 k1 k2 k3 x0 x1 x2 x3 x4 = k0_pay10 (k0_pay5 x0 (cols1 i k1 x1)) k0_pay1 k0_pay2 := by
  unfold out0_A_5 sout0_A_0 sout0_A_1
  rw [View.read_writes_eq_canon _ _ _ (cover0_A_5 c i a1 h1 a2 h2 a3 h3 a4 h4 a5 h5 a6 h6 a7 h7 a8 h8 a9 h9 k0 k1 k2 k3 x0 x1 x2 x3 x4), View.read_writes_eq_canon _ _ _ (scover0_A_0 c i a1 h1 a2 h2 a3 h3 a4 h4 a5 h5 a6 h6 a7 h7 a8 h8 a9 h9 k0 k1 k2 k3 x0 x1 x2 x3 x4), View.read_writes_eq_canon _ _ _ (scover0_A_1 c i a1 h1 a2 h2 a3 h3 a4 h4 a5 h5 a6 h6 a7 h7 a8 h8 a9 h9 k0 k1 k2 k3 x0 x1 x2 x3 x4)]
  unfold kernelRun0_A
  dsimp only
  sl_unfold_words
  simp only [View.canon_unit_zero (S := S2048x1024) hz, View.canon_unit_zero (S := S1x1024) hz, View.canon_unit_zero (S := S1x1) hz,
    View.canon_cons_unit_zero (S := S1x1024) hz, View.readCov_unit_zero (S := S2048x1024) _ hz, View.readCov_unit_zero (S := S1x1024) _ hz,
   View.readAt_eq_ld, h1.read_unread, h2.read_unread, h3.read_unread, h4.read_unread, h5.read_unread, h8.read_unread,
    h9.read_unread, View.ld_unit_zero (S := S64x1024) hz, View.ld_unit_zero (S := S1x1024) hz]
  exact ⟨rfl, rfl, rfl⟩

/-- A later step on the first table operand: the logits, the maximum and the sum carried on. -/
theorem case_B (k0 : ¬cond0_0 i) (k1 : cond0_1 i) (k2 : ¬cond0_2 i) (k3 : ¬cond0_3 i) :
    out0_B_5 c i a1 h1 a2 h2 a3 h3 a4 h4 a5 h5 a6 h6 a7 h7 a8 h8 a9 h9 k0 k1 k2 k3 x0 x1 x2 x3 x4 s0 s1 = (k0_pay5 x0 (cols1 i k1 x1))
    ∧ sout0_B_0 c i a1 h1 a2 h2 a3 h3 a4 h4 a5 h5 a6 h6 a7 h7 a8 h8 a9 h9 k0 k1 k2 k3 x0 x1 x2 x3 x4 s0 s1 = k0_pay9 (k0_pay5 x0 (cols1 i k1 x1)) s0
    ∧ sout0_B_1 c i a1 h1 a2 h2 a3 h3 a4 h4 a5 h5 a6 h6 a7 h7 a8 h8 a9 h9 k0 k1 k2 k3 x0 x1 x2 x3 x4 s0 s1 = k0_pay10 (k0_pay5 x0 (cols1 i k1 x1)) s0 s1 := by
  unfold out0_B_5 sout0_B_0 sout0_B_1
  rw [View.read_writes_eq_canon _ _ _ (cover0_B_5 c i a1 h1 a2 h2 a3 h3 a4 h4 a5 h5 a6 h6 a7 h7 a8 h8 a9 h9 k0 k1 k2 k3 x0 x1 x2 x3 x4 s0 s1), View.read_writes_eq_canon _ _ _ (scover0_B_0 c i a1 h1 a2 h2 a3 h3 a4 h4 a5 h5 a6 h6 a7 h7 a8 h8 a9 h9 k0 k1 k2 k3 x0 x1 x2 x3 x4 s0 s1), View.read_writes_eq_canon _ _ _ (scover0_B_1 c i a1 h1 a2 h2 a3 h3 a4 h4 a5 h5 a6 h6 a7 h7 a8 h8 a9 h9 k0 k1 k2 k3 x0 x1 x2 x3 x4 s0 s1)]
  unfold kernelRun0_B
  dsimp only
  sl_unfold_words
  simp only [View.canon_unit_zero (S := S2048x1024) hz, View.canon_unit_zero (S := S1x1024) hz, View.canon_unit_zero (S := S1x1) hz,
    View.canon_cons_unit_zero (S := S1x1024) hz, View.readCov_unit_zero (S := S2048x1024) _ hz, View.readCov_unit_zero (S := S1x1024) _ hz,
   View.readAt_eq_ld, h1.read_unread, h2.read_unread, h3.read_unread, h4.read_unread, h5.read_unread, h8.read_unread,
    h9.read_unread, View.ld_unit_zero (S := S64x1024) hz, View.ld_unit_zero (S := S1x1024) hz]
  exact ⟨rfl, rfl, rfl⟩

/-- A step on the second table operand: the logits, the maximum and the sum carried on. -/
theorem case_C (k0 : ¬cond0_0 i) (k1 : ¬cond0_1 i) (k2 : cond0_2 i) (k3 : ¬cond0_3 i) :
    out0_C_5 c i a1 h1 a2 h2 a3 h3 a4 h4 a5 h5 a6 h6 a7 h7 a8 h8 a9 h9 k0 k1 k2 k3 x0 x1 x2 x3 x4 s0 s1 = (k0_pay11 x0 (cols2 i k2 x2))
    ∧ sout0_C_0 c i a1 h1 a2 h2 a3 h3 a4 h4 a5 h5 a6 h6 a7 h7 a8 h8 a9 h9 k0 k1 k2 k3 x0 x1 x2 x3 x4 s0 s1 = k0_pay16 (k0_pay11 x0 (cols2 i k2 x2)) s0
    ∧ sout0_C_1 c i a1 h1 a2 h2 a3 h3 a4 h4 a5 h5 a6 h6 a7 h7 a8 h8 a9 h9 k0 k1 k2 k3 x0 x1 x2 x3 x4 s0 s1 = k0_pay3 (k0_pay15 (k0_pay11 x0 (cols2 i k2 x2)) s0 s1) := by
  unfold out0_C_5 sout0_C_0 sout0_C_1
  rw [View.read_writes_eq_canon _ _ _ (cover0_C_5 c i a1 h1 a2 h2 a3 h3 a4 h4 a5 h5 a6 h6 a7 h7 a8 h8 a9 h9 k0 k1 k2 k3 x0 x1 x2 x3 x4 s0 s1), View.read_writes_eq_canon _ _ _ (scover0_C_0 c i a1 h1 a2 h2 a3 h3 a4 h4 a5 h5 a6 h6 a7 h7 a8 h8 a9 h9 k0 k1 k2 k3 x0 x1 x2 x3 x4 s0 s1), View.read_writes_eq_canon _ _ _ (scover0_C_1 c i a1 h1 a2 h2 a3 h3 a4 h4 a5 h5 a6 h6 a7 h7 a8 h8 a9 h9 k0 k1 k2 k3 x0 x1 x2 x3 x4 s0 s1)]
  unfold kernelRun0_C
  dsimp only
  sl_unfold_words
  simp only [View.canon_unit_zero (S := S2048x1024) hz, View.canon_unit_zero (S := S1x1024) hz, View.canon_unit_zero (S := S1x1) hz,
    View.canon_cons_unit_zero (S := S1x1024) hz, View.readCov_unit_zero (S := S2048x1024) _ hz, View.readCov_unit_zero (S := S1x1024) _ hz,
   View.readAt_eq_ld, h1.read_unread, h2.read_unread, h3.read_unread, h4.read_unread, h5.read_unread, h8.read_unread,
    h9.read_unread, View.ld_unit_zero (S := S64x1024) hz, View.ld_unit_zero (S := S1x1024) hz]
  exact ⟨rfl, rfl, rfl⟩

/-- The last step: the logits, and the loss from the maximum and the sum carried so far. -/
theorem case_D (k0 : ¬cond0_0 i) (k1 : ¬cond0_1 i) (k2 : ¬cond0_2 i) (k3 : cond0_3 i) :
    out0_D_5 c i a1 h1 a2 h2 a3 h3 a4 h4 a5 h5 a6 h6 a7 h7 a8 h8 a9 h9 k0 k1 k2 k3 x0 x1 x2 x3 x4 s0 s1 = (k0_pay18 x0 (cols3 x2))
    ∧ out0_D_6 c i a1 h1 a2 h2 a3 h3 a4 h4 a5 h5 a6 h6 a7 h7 a8 h8 a9 h9 k0 k1 k2 k3 x0 x1 x2 x3 x4 s0 s1 = k0_pay4 (k0_pay19 (k0_pay18 x0 (cols3 x2)) s0 s1) (k0_pay20 x0 x3) x4 := by
  unfold out0_D_5 out0_D_6
  rw [View.read_writes_eq_canon _ _ _ (cover0_D_5 c i a1 h1 a2 h2 a3 h3 a4 h4 a5 h5 a6 h6 a7 h7 a8 h8 a9 h9 k0 k1 k2 k3 x0 x1 x2 x3 x4 s0 s1), View.read_writes_eq_canon _ _ _ (cover0_D_6 c i a1 h1 a2 h2 a3 h3 a4 h4 a5 h5 a6 h6 a7 h7 a8 h8 a9 h9 k0 k1 k2 k3 x0 x1 x2 x3 x4 s0 s1)]
  unfold kernelRun0_D
  dsimp only
  sl_unfold_words
  simp only [View.canon_unit_zero (S := S2048x1024) hz, View.canon_unit_zero (S := S1x1024) hz, View.canon_unit_zero (S := S1x1) hz,
    View.canon_cons_unit_zero (S := S1x1024) hz, View.readCov_unit_zero (S := S2048x1024) _ hz, View.readCov_unit_zero (S := S1x1024) _ hz,
   View.readAt_eq_ld, h1.read_unread, h2.read_unread, h3.read_unread, h4.read_unread, h5.read_unread, h8.read_unread,
    h9.read_unread, View.ld_unit_zero (S := S64x1024) hz, View.ld_unit_zero (S := S1x1024) hz]
  exact ⟨rfl, rfl⟩

end Cert.KernelIdeal.Bodies

end
-- ==== Proof.Softmax.lean ====
/-
  The running log-sum-exp of real numbers, over the extended reals: what it means for a pair (maximum, sum of
  exponentials) to carry the first `N` numbers, that one block of further numbers keeps it so, and what it and a
  direct log-sum-exp come to at the end. Nothing here names the program.
-/
module

public import Idealize.ShloMosaic.PureOps.Ideal
public import Idealize.ShloMosaic.PureOps.Ideal.Laws

@[expose] public section

noncomputable section

namespace Cert.Softmax

open Idealize.ShloMosaic

/-- A finite sum of reals, read as extended reals, is the sum of the readings. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The sum of `exp (l r - M)` over the first `N` numbers. -/
def expSum (l : ℕ → ℝ) (N : ℕ) (M : ℝ) : ℝ := ∑ r ∈ Finset.range N, Real.exp (l r - M)

/-- The pair `(m, s)` carries the first `N` of the numbers `l`: nothing was seen yet, or `m` is a real number and `s`
    the sum of the exponentials relative to it. -/
def Carries (l : ℕ → ℝ) (N : ℕ) (m s : EReal) : Prop :=
  (N = 0 ∧ m = ⊥ ∧ s = 0) ∨ ∃ M : ℝ, m = (M : EReal) ∧ s = (expSum l N M : EReal)

/-- The log-sum-exp of the first `N` numbers. -/
def lse (l : ℕ → ℝ) (N : ℕ) : ℝ := Real.log (∑ r ∈ Finset.range N, Real.exp (l r))

/-- Taking out the number subtracted. -/
theorem expSum_eq (l : ℕ → ℝ) (N : ℕ) (M : ℝ) : expSum l N M = Real.exp (-M) * ∑ r ∈ Finset.range N, Real.exp (l r) := by
  unfold expSum
  rw [Finset.mul_sum]
  refine Finset.sum_congr rfl fun r _ => ?_
  rw [← Real.exp_add]
  ring_nf

/-- The sum is positive once a number was seen. -/
theorem expSum_pos (l : ℕ → ℝ) {N : ℕ} (hN : 0 < N) (M : ℝ) : 0 < expSum l N M :=
  Finset.sum_pos (fun _ _ => Real.exp_pos _) ⟨0, Finset.mem_range.2 hN⟩

/-- The number subtracted added back to the logarithm of the sum is the log-sum-exp, whichever it was. -/
theorem add_log_expSum (l : ℕ → ℝ) {N : ℕ} (hN : 0 < N) (M : ℝ) : M + Real.log (expSum l N M) = lse l N := by
  have hp : (0 : ℝ) < ∑ r ∈ Finset.range N, Real.exp (l r) :=
    Finset.sum_pos (fun _ _ => Real.exp_pos _) ⟨0, Finset.mem_range.2 hN⟩
  rw [expSum_eq, Real.log_mul (Real.exp_pos _).ne' hp.ne', Real.log_exp, lse]
  ring

/-- So a pair that carries them gives the log-sum-exp. -/
theorem Carries.lse {l : ℕ → ℝ} {N : ℕ} {m s : EReal} (h : Carries l N m s) (hN : 0 < N) :
    m + Ideal.log s = (lse l N : EReal) := by
  rcases h with ⟨h0, _⟩ | ⟨M, rfl, rfl⟩
  · omega
  · rw [Ideal.log_coe, if_neg (not_le.2 (expSum_pos l hN M)), ← EReal.coe_add, add_log_expSum l hN]

/-- The greatest of finitely many extended reals, all below `⊤` and one of them real, is real. -/
theorem fold_max_real {ι : Type} [Fintype ι] (f : ι → EReal) (ht : ∀ k, f k ≠ ⊤) (k₀ : ι) (hk : f k₀ ≠ ⊥) :
    ∃ M : ℝ, (Finset.univ : Finset ι).fold max ⊥ f = (M : EReal) := by
  have h1 : (Finset.univ : Finset ι).fold max ⊥ f ≠ ⊥ := by
    intro h
    have hle : f k₀ ≤ (Finset.univ : Finset ι).fold max ⊥ f :=
      (Finset.le_fold_max (c := f k₀)).2 (Or.inr ⟨k₀, Finset.mem_univ _, le_refl _⟩)
    rw [h] at hle
    exact hk (le_bot_iff.1 hle)
  have h2 : (Finset.univ : Finset ι).fold max ⊥ f ≠ ⊤ := by
    refine ne_of_lt ((Finset.fold_max_lt (c := (⊤ : EReal))).2 ⟨bot_lt_top, fun k _ => lt_top_iff_ne_top.2 (ht k)⟩)
  exact ⟨_, (EReal.coe_toReal h2 h1).symm⟩

/-- The exponentials of a block of `n` numbers of which the first `v` are the reals `g` and the rest `⊥`, relative to a
    real number, sum to the sum over the first `v`. -/
theorem sum_exp_block {n v : ℕ} (hv : v ≤ n) (g : ℕ → ℝ) (x : Fin n → EReal)
    (hx : ∀ k, x k = if k.val < v then (g k.val : EReal) else ⊥) (B : ℝ) :
    ∑ k, Ideal.exp (x k - (B : EReal)) = (expSum g v B : EReal) := by
  have e : ∀ k : Fin n, Ideal.exp (x k - (B : EReal))
      = ((fun r => if r < v then Real.exp (g r - B) else 0 : ℕ → ℝ) k.val : EReal) := by
    intro k
    rw [hx]
    by_cases h : k.val < v
    · simp only [h, if_true, ← EReal.coe_sub, Ideal.exp_coe]
    · simp only [h, if_false, EReal.bot_sub, Ideal.exp_bot, EReal.coe_zero]
  rw [Finset.sum_congr rfl fun k _ => e k, ← coe_sum,
    Fin.sum_univ_eq_sum_range (fun r => if r < v then Real.exp (g r - B) else 0) n]
  congr 1
  rw [expSum, ← Finset.sum_filter]
  refine Finset.sum_congr (Finset.ext fun r => ?_) fun _ _ => rfl
  simp only [Finset.mem_filter, Finset.mem_range]
  omega

/-- Changing the number subtracted. -/
theorem expSum_mul (l : ℕ → ℝ) (N : ℕ) (M M' : ℝ) : expSum l N M * Real.exp (M - M') = expSum l N M' := by
  rw [expSum_eq, expSum_eq, mul_right_comm, ← Real.exp_add]
  ring_nf

/-- The first `N` numbers and the `v` after them are the first `N + v`. -/
theorem expSum_add (l : ℕ → ℝ) (N v : ℕ) (M : ℝ) :
    expSum l N M + expSum (fun k => l (N + k)) v M = expSum l (N + v) M := by
  simp only [expSum, Finset.sum_range_add]

/-- ONE BLOCK: from a pair that carries the first `N` numbers, the greater of its maximum and the block's, and the two
    sums brought to it and added, carry the first `N + v`, for a block of the next `v` numbers padded with `⊥`. -/
theorem Carries.step {l : ℕ → ℝ} {N n v : ℕ} {m s : EReal} (h : Carries l N m s) (hv : v ≤ n) (h0 : 0 < v)
    (x : Fin n → EReal) (hx : ∀ k, x k = if k.val < v then (l (N + k.val) : EReal) else ⊥)
    {b : EReal} (hb : b = (Finset.univ : Finset (Fin n)).fold max ⊥ x) :
    Carries l (N + v) (max m b)
      (s * Ideal.exp (m - max m b) + (∑ k, Ideal.exp (x k - b)) * Ideal.exp (b - max m b)) := by
  obtain ⟨B, hB⟩ := fold_max_real x (fun k => by rw [hx]; split <;> simp) ⟨0, by omega⟩ (by rw [hx]; simp [h0])
  have hb' : b = (B : EReal) := hb.trans hB
  clear hb hB
  subst hb'
  rw [sum_exp_block hv (fun k => l (N + k)) x hx B]
  right
  rcases h with ⟨rfl, rfl, rfl⟩ | ⟨M, rfl, rfl⟩
  · refine ⟨B, max_eq_right bot_le, ?_⟩
    rw [max_eq_right bot_le, zero_mul, zero_add, ← EReal.coe_sub, Ideal.exp_coe, ← EReal.coe_mul, expSum_mul]
    congr 1
    simpa [expSum] using expSum_add l 0 v B
  · obtain ⟨M', hM'⟩ : ∃ M' : ℝ, max (M : EReal) (B : EReal) = (M' : EReal) := by
      rcases max_choice (M : EReal) (B : EReal) with h | h
      · exact ⟨M, h⟩
      · exact ⟨B, h⟩
    refine ⟨M', hM', ?_⟩
    rw [hM', ← EReal.coe_sub, ← EReal.coe_sub, Ideal.exp_coe, Ideal.exp_coe, ← EReal.coe_mul, ← EReal.coe_mul,
      ← EReal.coe_add, expSum_mul, expSum_mul, expSum_add]

/-- THE DIRECT FORM: the negated log-softmax of the `t`-th of `n` real numbers, by their greatest, is the log-sum-exp
    less the number. -/
theorem neg_logSoftmax {n : ℕ} (l : ℕ → ℝ) (x : Fin n → EReal) (hx : ∀ k, x k = (l k.val : EReal)) (hn : 0 < n)
    (t : Fin n) {b : EReal} (hb : b = (Finset.univ : Finset (Fin n)).fold max ⊥ x) :
    -(x t - b - Ideal.log (∑ k, Ideal.exp (x k - b))) = (lse l n : EReal) - x t := by
  obtain ⟨B, hB⟩ := fold_max_real x (fun k => by rw [hx]; simp) ⟨0, hn⟩ (by rw [hx]; simp)
  have hb' : b = (B : EReal) := hb.trans hB
  clear hb hB
  subst hb'
  rw [sum_exp_block (le_refl n) l x (fun k => by rw [hx, if_pos k.isLt]) B, Ideal.log_coe,
    if_neg (not_le.2 (expSum_pos l hn B)), hx t, ← EReal.coe_sub, ← EReal.coe_sub, ← EReal.coe_sub, ← EReal.coe_neg]
  congr 1
  rw [← add_log_expSum l hn B]
  ring

end Cert.Softmax

end
-- ==== Proof.Payload.lean ====
/-
  The body's named terms read at one element, over the extended reals: the block of logits, the block's maximum, the
  maximum and the sum carried on, the log-sum-exp of the last step and the loss.
-/
module

public import proofs.«01_k».proof.Proof.Bodies
public import proofs.«01_k».proof.Proof.Softmax
public import Idealize.ShloMosaic.Lib.Pointwise

@[expose] public section

set_option maxRecDepth 16384

noncomputable section

namespace Cert.KernelIdeal.Payload

open Idealize.ShloMosaic
open Cert.KernelIdeal Cert.KernelIdeal.Gen

/-- The scale of the logits, `30`, as the programs spell it. -/
def scale : EReal := Ideal.ofBits .f32 0x41F00000#32

/-- A block of logits at a table row and a lane. -/
theorem logits_apply (x : Vec Ideal S64x1024 .f32) (c : Vec Ideal S64x2048 .f32) (r : Fin 2048) (b : Fin 1024) :
    k0_pay5 (F := Ideal) x c (ix2 r b) = (∑ k : Fin 64, c (ix2 k r) * x (ix2 k b)) * scale := by
  unfold scale
  pointwise [k0_pay5]

/-- The greatest logit of a block, at a lane. -/
def top (L : Vec Ideal S2048x1024 .f32) (b : Fin 1024) : EReal :=
  (Finset.univ : Finset (Fin 2048)).fold max ⊥ fun k => L (ix2 k b)

/-- The pattern of negative infinity denotes `⊥`. -/
theorem ofBits_ninf : Ideal.ofBits .f32 0xFF800000#32 = (⊥ : EReal) := by
  simp [Ideal.ofBits, Ideal.ieee, -EReal.coe_mul]

/-- The block's sum along its rows, at a lane. -/
theorem rows_sum_apply (L : FVec Ideal S2048x1024 .f32) (b : Fin 1024) :
    shapeCast S1x1024 (multiReduction .add [0] S1024 L 0x00000000#32 reduces_S2048x1024_S1024 (.inl rfl) rfl)
      shapeCasts_S1024_S1x1024 (ix2 0 b) = ∑ k : Fin 2048, L (ix2 k b) := by
  pointwise

/-- The block's maximum along its rows, at a lane. -/
theorem rows_max_apply (L : FVec Ideal S2048x1024 .f32) (b : Fin 1024) :
    shapeCast S1x1024 (multiReduction .maximumf [0] S1024 L 0xFF800000#32 reduces_S2048x1024_S1024 (.inl rfl) rfl)
      shapeCasts_S1024_S1x1024 (ix2 0 b) = top L b := by
  unfold top
  rw [← ofBits_ninf]
  pointwise

/-- A row spread over a block is the same in each of its rows. -/
theorem spread_apply (v : FVec Ideal S1x1024 .f32) (k : Fin 2048) (b : Fin 1024) :
    broadcastTo S2048x1024 v broadcasts_S1x1024_S2048x1024 (ix2 k b) = v (ix2 0 b) := by
  pointwise

/-- A cast to the shape it has changes nothing: a row. -/
theorem cast_row (v : FVec Ideal S1x1024 .f32) : shapeCast S1x1024 v shapeCasts_S1x1024_S1x1024 = v := by
  funext j
  pointwise

/-- A cast to the shape it has changes nothing: a block. -/
theorem cast_block (v : FVec Ideal S2048x1024 .f32) : shapeCast S2048x1024 v shapeCasts_S2048x1024_S2048x1024 = v := by
  funext j
  pointwise

/-- The block's part of one step, from the block `L`, the block's maximum `B`, the maximum so far `m` and the sum so far
    `s`: the sum brought to the greater of the two maxima. -/
def merged (L : FVec Ideal S2048x1024 .f32) (B m s : FVec Ideal S1x1024 .f32) : FVec Ideal S1x1024 .f32 :=
  addf (mulf s (exp (subf m (maximumf m B))))
    (mulf (shapeCast S1x1024 (multiReduction .add [0] S1024
        (exp (subf L (broadcastTo S2048x1024 B broadcasts_S1x1024_S2048x1024))) 0x00000000#32
        reduces_S2048x1024_S1024 (.inl rfl) rfl) shapeCasts_S1024_S1x1024)
      (exp (subf B (maximumf m B))))

/-- That at a lane. -/
theorem merged_apply (L : FVec Ideal S2048x1024 .f32) (B m s : FVec Ideal S1x1024 .f32) (b : Fin 1024) :
    merged L B m s (ix2 0 b)
      = s (ix2 0 b) * Ideal.exp (m (ix2 0 b) - max (m (ix2 0 b)) (B (ix2 0 b)))
        + (∑ k : Fin 2048, Ideal.exp (L (ix2 k b) - B (ix2 0 b)))
          * Ideal.exp (B (ix2 0 b) - max (m (ix2 0 b)) (B (ix2 0 b))) := by
  have e : shapeCast S1x1024 (multiReduction .add [0] S1024
        (exp (subf L (broadcastTo S2048x1024 B broadcasts_S1x1024_S2048x1024))) 0x00000000#32
        reduces_S2048x1024_S1024 (.inl rfl) rfl) shapeCasts_S1024_S1x1024 (ix2 0 b)
      = ∑ k : Fin 2048, Ideal.exp (L (ix2 k b) - B (ix2 0 b)) := by
    rw [rows_sum_apply]
    refine Finset.sum_congr rfl fun k _ => ?_
    rw [← spread_apply B k b]
    rfl
  rw [← e]
  rfl

/-- The maximum of the block, as the steps on whole blocks take it. -/
theorem top_apply (L : Vec Ideal S2048x1024 .f32) (b : Fin 1024) : k0_pay7 (F := Ideal) L (ix2 0 b) = top L b := by
  unfold k0_pay7 k0_pay6
  rw [cast_block]
  exact rows_max_apply L b

/-- The maximum carried on, at a lane. -/
theorem max_apply (L : Vec Ideal S2048x1024 .f32) (m : Vec Ideal S1x1024 .f32) (b : Fin 1024) :
    k0_pay9 (F := Ideal) L m (ix2 0 b) = max (m (ix2 0 b)) (top L b) := by
  rw [← top_apply]
  unfold k0_pay9
  rw [cast_row]
  rfl

/-- The sum carried on is the merged one. -/
theorem sum_eq (L : Vec Ideal S2048x1024 .f32) (m s : Vec Ideal S1x1024 .f32) :
    k0_pay10 (F := Ideal) L m s = merged L (k0_pay7 (F := Ideal) L) m s := by
  have e : k0_pay10 (F := Ideal) L m s
      = shapeCast S1x1024 (merged (k0_pay6 (F := Ideal) L) (k0_pay7 (F := Ideal) L) m s) shapeCasts_S1x1024_S1x1024 := rfl
  have e6 : k0_pay6 (F := Ideal) L = L := cast_block L
  rw [e, cast_row, e6]

/-- The sum carried on, at a lane. -/
theorem sum_apply (L : Vec Ideal S2048x1024 .f32) (m s : Vec Ideal S1x1024 .f32) (b : Fin 1024) :
    k0_pay10 (F := Ideal) L m s (ix2 0 b)
      = s (ix2 0 b) * Ideal.exp (m (ix2 0 b) - max (m (ix2 0 b)) (top L b))
        + (∑ k : Fin 2048, Ideal.exp (L (ix2 k b) - top L b)) * Ideal.exp (top L b - max (m (ix2 0 b)) (top L b)) := by
  rw [sum_eq, merged_apply, top_apply]

/-- The last block with the rows past the table's end at `⊥`. -/
def masked (L : Vec Ideal S2048x1024 .f32) : FVec Ideal S2048x1024 .f32 :=
  select (broadcastTo S2048x1024
      (shapeCast S2048x1 (cmpi .slt (iota .tc S2048x1 32 [0] iota_S2048x1_d0_w32) (broadcast S2048x1 552#32))
        shapeCasts_S2048x1_S2048x1) broadcasts_S2048x1_S2048x1024)
    L (broadcast S2048x1024 (Scalar.ofBits .f32 0xFF800000#32))

/-- That at a row and a lane. -/
theorem masked_apply (L : Vec Ideal S2048x1024 .f32) (k : Fin 2048) (b : Fin 1024) :
    masked L (ix2 k b) = if k.val < 552 then L (ix2 k b) else ⊥ := by
  rw [← ofBits_ninf]
  have hw : (BitVec.ofNat 32 k.val).slt 552#32 = decide (k.val < 552) := by
    have hk := k.isLt
    simp only [BitVec.slt_eq_decide]
    congr 1
    have e1 : (BitVec.ofNat 32 k.val).toInt = k.val := by
      rw [BitVec.toInt_eq_toNat_cond, BitVec.toNat_ofNat, Nat.mod_eq_of_lt (by omega), if_pos (by omega)]
    have e2 : (552#32).toInt = 552 := by decide
    rw [e1, e2]
    norm_num
  unfold masked
  by_cases h : k.val < 552 <;> pointwise [h, hw, Scalar.select, IntOp.cmpi] <;> rfl

/-- The maximum of a block along its rows, as a row. -/
def topRow (L : FVec Ideal S2048x1024 .f32) : FVec Ideal S1x1024 .f32 :=
  shapeCast S1x1024 (multiReduction .maximumf [0] S1024 L 0xFF800000#32 reduces_S2048x1024_S1024 (.inl rfl) rfl)
    shapeCasts_S1024_S1x1024

/-- The log-sum-exp of the last step, by the merged sum of the masked block. -/
theorem lse_eq (L : Vec Ideal S2048x1024 .f32) (m s : Vec Ideal S1x1024 .f32) :
    k0_pay19 (F := Ideal) L m s
      = addf (maximumf m (topRow (masked L))) (log (merged (masked L) (topRow (masked L)) m s)) := by
  have e : k0_pay19 (F := Ideal) L m s
      = addf (maximumf m (topRow (masked (shapeCast S2048x1024 L shapeCasts_S2048x1024_S2048x1024))))
          (log (merged (masked (shapeCast S2048x1024 L shapeCasts_S2048x1024_S2048x1024))
            (topRow (masked (shapeCast S2048x1024 L shapeCasts_S2048x1024_S2048x1024))) m s)) := rfl
  rw [e, cast_block]

/-- That at a lane. -/
theorem lse_apply (L : Vec Ideal S2048x1024 .f32) (m s : Vec Ideal S1x1024 .f32) (b : Fin 1024) :
    k0_pay19 (F := Ideal) L m s (ix2 0 b)
      = max (m (ix2 0 b)) (top (masked L) b)
        + Ideal.log (s (ix2 0 b) * Ideal.exp (m (ix2 0 b) - max (m (ix2 0 b)) (top (masked L) b))
        + (∑ k : Fin 2048, Ideal.exp (masked L (ix2 k b) - top (masked L) b))
          * Ideal.exp (top (masked L) b - max (m (ix2 0 b)) (top (masked L) b))) := by
  have ht : topRow (masked L) (ix2 0 b) = top (masked L) b := rows_max_apply _ b
  rw [lse_eq, ← ht, ← merged_apply]
  rfl

/-- The logits block of the second table operand's steps is the same term. -/
theorem logits11 (x : Vec Ideal S64x1024 .f32) (c : Vec Ideal S64x2048 .f32) : k0_pay11 (F := Ideal) x c = k0_pay5 x c := rfl
/-- So is that of the last step. -/
theorem logits18 (x : Vec Ideal S64x1024 .f32) (c : Vec Ideal S64x2048 .f32) : k0_pay18 (F := Ideal) x c = k0_pay5 x c := rfl
/-- The maximum carried on by the second table operand's steps is the same term. -/
theorem max16 (L : Vec Ideal S2048x1024 .f32) (m : Vec Ideal S1x1024 .f32) : k0_pay16 (F := Ideal) L m = k0_pay9 L m := rfl
/-- So is the sum. -/
theorem sum15 (L : Vec Ideal S2048x1024 .f32) (m s : Vec Ideal S1x1024 .f32) :
    k0_pay3 (F := Ideal) (k0_pay15 L m s) = k0_pay10 L m s := rfl

/-- Before the first step the maximum is `⊥`. -/
theorem max0_apply (b : Fin 1024) : k0_pay1 (F := Ideal) (ix2 0 b) = ⊥ := by
  rw [← ofBits_ninf]
  pointwise [k0_pay1]

/-- Before the first step the sum is `0`. -/
theorem sum0_apply (b : Fin 1024) : k0_pay2 (F := Ideal) (ix2 0 b) = 0 := by
  pointwise [k0_pay2]

/-- The products of the embeddings and the targets' table rows, at an element. -/
theorem prod_apply (x y : Vec Ideal S64x1024 .f32) (k : Fin 64) (b : Fin 1024) :
    k0_pay20 (F := Ideal) x y (ix2 k b) = x (ix2 k b) * y (ix2 k b) := by
  pointwise [k0_pay20, k0_pay17]

/-- The loss: the weighted mean of the log-sum-exp less the target's logit. -/
theorem loss_apply (l : FVec Ideal S1x1024 .f32) (p : FVec Ideal S64x1024 .f32) (w : Vec Ideal S1x1024 .f32) :
    k0_pay4 (F := Ideal) l p w (ix2 0 0)
      = Ideal.div (∑ b : Fin 1024, w (ix2 0 b) * (l (ix2 0 b) - (∑ k : Fin 64, p (ix2 k b)) * scale))
          (max (∑ b : Fin 1024, w (ix2 0 b)) (Ideal.ofBits .f32 0x2B8CBCCC#32)) := by
  unfold scale
  pointwise [k0_pay4]

end Cert.KernelIdeal.Payload

end
-- ==== Proof.Host.lean ====
/-
  What the host's lines before the kernel leave in the five arrays it reads, as terms of the arguments: the embeddings
  and the table transposed, the table's tail with the queue and zeros, the targets' table rows and the weights.
  The targets and the weights are the very terms that the reference's program computes.
-/
module

public import proofs.«01_k».proof.Proof.Payload
public import proofs.«01_k».proof.Proof.Gen.ReferenceIdeal.Read

@[expose] public section

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (c : Dev nD)

/-- The embeddings as launched. -/
abbrev argX : FVec Ideal S1024x64 .f32 := m ((c : Thread nD τ).loc main_arg0)
/-- The targets as launched. -/
abbrev argT : IVec S1024 32 := m ((c : Thread nD τ).loc main_arg1)
/-- The padding ratios as launched. -/
abbrev argP : FVec Ideal S1024x2 .f32 := m ((c : Thread nD τ).loc main_arg2)
/-- The part's number as launched. -/
abbrev argI : IVec S_ 32 := m ((c : Thread nD τ).loc main_arg3)
/-- The labelled table as launched. -/
abbrev argL : FVec Ideal S100000x64 .f32 := m ((c : Thread nD τ).loc main_arg4)
/-- The queue as launched. -/
abbrev argQ : FVec Ideal S5000x64 .f32 := m ((c : Thread nD τ).loc main_arg5)
/-- The classes' weights as launched. -/
abbrev argW : FVec Ideal S105000 .f32 := m ((c : Thread nD τ).loc main_arg6)

/-- The table rows that the targets name: the target where it counts, row `0` elsewhere. -/
abbrev safe (t : IVec S1024 32) (p : FVec Ideal S1024x2 .f32) (i : IVec S_ 32) : IVec S1024 32 :=
  Cert.ReferenceIdeal.Read.val_main_v34 (F := Ideal) t p i

/-- The entries' weights: the target's class weight where the target counts, `0` elsewhere. -/
abbrev weights (t : IVec S1024 32) (p : FVec Ideal S1024x2 .f32) (i : IVec S_ 32) (w : FVec Ideal S105000 .f32) :
    FVec Ideal S1024 .f32 :=
  Cert.ReferenceIdeal.Read.val_main_v48 (F := Ideal) t p i w

/-- The row numbers with the negative ones counted from the table's end, as a column. -/
def wrapped (s : IVec S1024 32) : IVec S1024x1 32 :=
  broadcastInDim S1024x1 ![0] bcast_S1024_S1024x1_0
    (select (cmpi .slt s (broadcastInDim S1024 ![] bcast_S_S1024 (constantI S_ 32 0#32)))
      (addi s (broadcastInDim S1024 ![] bcast_S_S1024 (constantI S_ 32 100000#32))) s)

/-- Which of them lie in the table. -/
def inTable (k : IVec S1024x1 32) : IVec S1024 1 :=
  Host.reduce IntOp.andi
    (andi (cmpi .sge k (broadcastInDim S1024x1 ![] bcast_S_S1024x1 (constantI S_ 32 0#32)))
      (cmpi .sle k (broadcastInDim S1024x1 ![0, 1] bcast_S1x1_S1024x1_0_1
        (broadcastInDim S1x1 ![1] bcast_S1_S1x1_1 (constantI S1 32 99999#32)))))
    (constantI S_ 1 1#1) reducesTo_S1024x1_S1024_d1 h_S_

/-- The columns of the transposed table at given row numbers, with the filler where a number lies outside it. -/
def taken (l : FVec Ideal S64x100000 .f32) (s : IVec S1024 32) : FVec Ideal S64x1024 .f32 :=
  select (broadcastInDim S64x1024 ![1] bcast_S1024_S64x1024_1 (inTable (wrapped s)))
    (Host.gather gather_S64x100000_S1024x1_S64x1024_0_1_n_n_1_1_641 l (wrapped s))
    (broadcastInDim S64x1024 ![] bcast_S_S64x1024 (constant S_ .f32 0x7FC00000#32))

/-- The table's tail, the queue and zeros, one below the other. -/
def tail (l : FVec Ideal S100000x64 .f32) (q : FVec Ideal S5000x64 .f32) : FVec Ideal S8192x64 .f32 :=
  concatenate S8192x64 0 [⟨S1696x64, (extractStridedSlice S1696x64 ![98304, 0] l slices_S100000x64_S1696x64_98304_0)⟩,
    ⟨S5000x64, q⟩, ⟨S1496x64, (broadcastInDim S1496x64 ![] bcast_S_S1496x64 (constant (F := Ideal) S_ .f32 0x00000000#32))⟩]
    concatenates_S1696x64_S5000x64_S1496x64_S8192x64_d0

/-- The kernel's first array is the embeddings transposed. -/
theorem V_xt : V m c main_v39 = transpose S64x1024 [1, 0] (argX m c) transposes_S1024x64_S64x1024_1_0 := by
  unfold V V0
  simp only [hostOps0, hostOps0_1, hostOps0_2, hostOps0_3, hostOps0_4, hostOps0_5, hostOps0_6, List.flatten_cons,
    List.flatten_nil, List.append_nil, List.cons_append, List.nil_append, TRef.binary, TRef.nullary, TRef.reshape,
    TRef.ternary, TRef.unary, TRef.toBuf, TRef.ofBuf, cast_eq]
  after_results_simp

/-- Its second is the table transposed. -/
theorem V_lut : V m c main_v40 = transpose S64x100000 [1, 0] (argL m c) transposes_S100000x64_S64x100000_1_0 := by
  unfold V V0
  simp only [hostOps0, hostOps0_1, hostOps0_2, hostOps0_3, hostOps0_4, hostOps0_5, hostOps0_6, List.flatten_cons,
    List.flatten_nil, List.append_nil, List.cons_append, List.nil_append, TRef.binary, TRef.nullary, TRef.reshape,
    TRef.ternary, TRef.unary, TRef.toBuf, TRef.ofBuf, cast_eq]
  after_results_simp

/-- Its third is the tail, the queue and zeros, transposed. -/
theorem V_aug : V m c main_v44 = transpose S64x8192 [1, 0] (tail (argL m c) (argQ m c)) transposes_S8192x64_S64x8192_1_0 := by
  unfold V V0
  simp only [hostOps0, hostOps0_1, hostOps0_2, hostOps0_3, hostOps0_4, hostOps0_5, hostOps0_6, List.flatten_cons,
    List.flatten_nil, List.append_nil, List.cons_append, List.nil_append, TRef.binary, TRef.nullary, TRef.reshape,
    TRef.ternary, TRef.unary, TRef.toBuf, TRef.ofBuf, cast_eq]
  after_results_simp
  rfl

/-- Its fourth is the transposed table's columns at the targets. -/
theorem V_trt : V m c main_v45 = taken (transpose S64x100000 [1, 0] (argL m c) transposes_S100000x64_S64x100000_1_0)
    (safe (argT m c) (argP m c) (argI m c)) := by
  unfold V V0
  simp only [hostOps0, hostOps0_1, hostOps0_2, hostOps0_3, hostOps0_4, hostOps0_5, hostOps0_6, List.flatten_cons,
    List.flatten_nil, List.append_nil, List.cons_append, List.nil_append, TRef.binary, TRef.nullary, TRef.reshape,
    TRef.ternary, TRef.unary, TRef.toBuf, TRef.ofBuf, cast_eq]
  after_results_simp
  rfl

/-- Its fifth is the weights, as a row. -/
theorem V_w : V m c main_v46 = shapeCast S1x1024 (weights (argT m c) (argP m c) (argI m c) (argW m c)) shapeCasts_S1024_S1x1024 := by
  unfold V V0
  simp only [hostOps0, hostOps0_1, hostOps0_2, hostOps0_3, hostOps0_4, hostOps0_5, hostOps0_6, List.flatten_cons,
    List.flatten_nil, List.append_nil, List.cons_append, List.nil_append, TRef.binary, TRef.nullary, TRef.reshape,
    TRef.ternary, TRef.unary, TRef.toBuf, TRef.ofBuf, cast_eq]
  after_results_simp
  rfl

end Cert.KernelIdeal.Host

end
-- ==== Proof.Targets.lean ====
/-
  The targets' table rows: with no target beyond the labelled rows, each is a row of the labelled table, and both the
  kernel's columns taken at them and the reference's log-softmax taken at them are plain reads, no filler.
-/
module

public import proofs.«01_k».proof.Proof.Host

@[expose] public section

set_option maxRecDepth 16384

noncomputable section

namespace Cert.KernelIdeal.Targets

open Idealize.ShloMosaic
open Cert.KernelIdeal Cert.KernelIdeal.Gen Cert.KernelIdeal.Host

/-- The row number of one entry, from its target's word and the bit that hides it: a number below `100000`. -/
theorem row_word (x : BitVec 32) (q : BitVec 1) (hx : x.toInt < 100000) :
    ∃ k : Fin 100000, Scalar.select (IntOp.cmpi .ne (Scalar.select (IntOp.ori q (IntOp.cmpi .slt x 0#32)) 5555#32 x) 5555#32)
      (Scalar.select (IntOp.ori q (IntOp.cmpi .slt x 0#32)) 5555#32 x) 0#32 = BitVec.ofNat 32 k.val := by
  by_cases h : IntOp.ori q (IntOp.cmpi .slt x 0#32) = 1#1
  · refine ⟨⟨0, by omega⟩, ?_⟩
    rw [h]
    rfl
  · have hs : Scalar.select (IntOp.ori q (IntOp.cmpi .slt x 0#32)) 5555#32 x = x := if_neg h
    rw [hs]
    have hn : ¬ x.slt 0#32 = true := fun hh => h (by
      show q ||| BitVec.ofBool (x.slt 0#32) = 1#1
      rw [hh]
      exact (by decide : ∀ q : BitVec 1, q ||| BitVec.ofBool true = 1#1) q)
    have h0 : 0 ≤ x.toInt := by
      rw [BitVec.slt_eq_decide] at hn
      simpa using hn
    by_cases he : IntOp.cmpi .ne x 5555#32 = 1#1
    · refine ⟨⟨x.toNat, ?_⟩, ?_⟩
      · rw [BitVec.toInt_eq_toNat_cond] at hx h0
        split at hx <;> omega
      · rw [show Scalar.select (IntOp.cmpi .ne x 5555#32) x 0#32 = x from if_pos he]
        simp
    · refine ⟨⟨0, by omega⟩, ?_⟩
      rw [show Scalar.select (IntOp.cmpi .ne x 5555#32) x 0#32 = 0#32 from if_neg he]

/-- So every entry's row number is below `100000`, where its target is. -/
theorem safe_word (t : IVec S1024 32) (p : FVec Ideal S1024x2 .f32) (i : IVec S_ 32) (b : Fin 1024)
    (ht : (t (ix1 b)).toInt < 100000) : ∃ k : Fin 100000, safe t p i (ix1 b) = BitVec.ofNat 32 k.val :=
  row_word (t (ix1 b)) (Cert.ReferenceIdeal.Read.val_main_v22 (F := Ideal) p i (ix1 b)) ht

/-- A number below `2 ^ 31`, as a word, read signed. -/
theorem toInt_word (n : ℕ) (h : n < 2147483648) : (BitVec.ofNat 32 n).toInt = n := by
  rw [BitVec.toInt_eq_toNat_cond, BitVec.toNat_ofNat, Nat.mod_eq_of_lt (by omega), if_pos (by omega)]

/-- Such a word is not negative. -/
theorem word_nonneg (n : ℕ) (h : n < 2147483648) : IntOp.cmpi .slt (BitVec.ofNat 32 n) 0#32 = 0#1 := by
  show BitVec.ofBool ((BitVec.ofNat 32 n).slt 0#32) = 0#1
  rw [BitVec.slt_eq_decide, toInt_word n h, decide_eq_false (by simp)]
  rfl

/-- Such a word is at least zero. -/
theorem word_sge (n : ℕ) (h : n < 2147483648) : IntOp.cmpi .sge (BitVec.ofNat 32 n) 0#32 = 1#1 := by
  show BitVec.ofBool ((0#32).sle (BitVec.ofNat 32 n)) = 1#1
  rw [BitVec.sle_eq_decide, toInt_word n h]
  simp

/-- Two such words compare as their numbers. -/
theorem word_sle (n k : ℕ) (h : n < 2147483648) (hk : k < 2147483648) (hnk : n ≤ k) :
    IntOp.cmpi .sle (BitVec.ofNat 32 n) (BitVec.ofNat 32 k) = 1#1 := by
  show BitVec.ofBool ((BitVec.ofNat 32 n).sle (BitVec.ofNat 32 k)) = 1#1
  rw [BitVec.sle_eq_decide, toInt_word n h, toInt_word k hk]
  simp [hnk]

/-- Row numbers in the table are not wrapped. -/
theorem wrapped_apply (s : IVec S1024 32) (b : Fin 1024) (k : Fin 100000) (hk : s (ix1 b) = BitVec.ofNat 32 k.val) :
    wrapped s (ix2 b 0) = BitVec.ofNat 32 k.val := by
  have hn := word_nonneg k.val (by omega)
  unfold wrapped
  pointwise [hk, hn]
  try rfl

/-- They lie in the table. -/
theorem inTable_apply (w : IVec S1024x1 32) (b : Fin 1024) (k : Fin 100000) (hk : w (ix2 b 0) = BitVec.ofNat 32 k.val) :
    inTable w (ix1 b) = 1#1 := by
  have h1 := word_sge k.val (by omega)
  have h2 := word_sle k.val 99999 (by omega) (by omega) (by omega)
  unfold inTable
  pointwise
  rw [Finset.univ_unique, Finset.fold_singleton]
  show IntOp.andi (IntOp.andi (IntOp.cmpi .sge (w (ix2 b 0)) 0#32) (IntOp.cmpi .sle (w (ix2 b 0)) 99999#32)) 1#1 = 1#1
  rw [hk, h1, h2]
  rfl

/-- A column of the transposed table, taken at a row number in it. -/
theorem column_apply (l : FVec Ideal S64x100000 .f32) (w : IVec S1024x1 32) (f : Fin 64) (b : Fin 1024) (k : Fin 100000)
    (hk : w (ix2 b 0) = BitVec.ofNat 32 k.val) :
    Host.gather gather_S64x100000_S1024x1_S64x1024_0_1_n_n_1_1_641 l w (ix2 f b) = l (ix2 f k) := by
  unfold Host.gather
  refine congrArg l (funext fun a => Fin.ext ?_)
  show gather_S64x100000_S1024x1_S64x1024_0_1_n_n_1_1_641.start (ix2 f b) w a
    + gather_S64x100000_S1024x1_S64x1024_0_1_n_n_1_1_641.batchCoord (ix2 f b) a
    + gather_S64x100000_S1024x1_S64x1024_0_1_n_n_1_1_641.offCoord (ix2 f b) a = _
  rw [GatherDims.batchCoord_eq_zero _ _ _ List.not_mem_nil]
  match a with
  | 0 =>
    unfold GatherDims.start GatherDims.offCoord
    rw [dif_neg (show (0 : Fin 2) ∉ gather_S64x100000_S1024x1_S64x1024_0_1_n_n_1_1_641.startIndexMap from show (0 : Fin 2) ∉ [1] by decide),
      dif_pos ((GatherDims.mem_sKept _ _).mpr ⟨show (0 : Fin 2) ∉ [1] from by decide, List.not_mem_nil⟩)]
    simp only [Nat.zero_add]
    rfl
  | 1 =>
    rw [GatherDims.offCoord_eq_zero _ _ _ (fun h => ((GatherDims.mem_sKept _ _).mp h).1 (List.mem_singleton.mpr rfl))]
    unfold GatherDims.start
    rw [dif_pos (show (1 : Fin 2) ∈ gather_S64x100000_S1024x1_S64x1024_0_1_n_n_1_1_641.startIndexMap from List.mem_singleton.mpr rfl)]
    simp only [Nat.add_zero]
    have hsi : gather_S64x100000_S1024x1_S64x1024_0_1_n_n_1_1_641.siIdx (ix2 f b)
        ⟨List.idxOf (1 : Fin 2) gather_S64x100000_S1024x1_S64x1024_0_1_n_n_1_1_641.startIndexMap,
          List.idxOf_lt_length_iff.2 (List.mem_singleton.mpr rfl)⟩ = ix2 b 0 := by
      funext d
      refine Fin.ext ?_
      match d with
      | ⟨0, _⟩ => rfl
      | ⟨1, _⟩ => rfl
    have hmin : min (BitVec.ofNat 32 k.val).toInt.toNat (100000 - 1) = k.val := by
      rw [toInt_word k.val (by omega)]
      have := k.isLt
      omega
    refine Eq.trans ?_ hmin
    rw [← hk, ← hsi]
    rfl

/-- The columns taken at the targets are the table's at their row numbers. -/
theorem taken_apply (l : FVec Ideal S64x100000 .f32) (s : IVec S1024 32) (f : Fin 64) (b : Fin 1024) (k : Fin 100000)
    (hk : s (ix1 b) = BitVec.ofNat 32 k.val) : taken l s (ix2 f b) = l (ix2 f k) := by
  have hw := wrapped_apply s b k hk
  have hin : broadcastInDim S64x1024 ![1] bcast_S1024_S64x1024_1 (inTable (wrapped s)) (ix2 f b) = 1#1 := by
    rw [← inTable_apply _ b k hw]
    pointwise
  unfold taken
  rw [← column_apply l (wrapped s) f b k hw]
  exact if_pos hin

end Cert.KernelIdeal.Targets

namespace Cert.ReferenceIdeal.Targets

open Idealize.ShloMosaic
open Cert.ReferenceIdeal Cert.ReferenceIdeal.Read Cert.KernelIdeal.Targets

/-- An entry of a row of the logits' shape, taken at a row number in it. -/
theorem along_apply (x : FVec Ideal S1024x105000 .f32) (w : IVec S1024x1x1 32) (b : Fin 1024) (k : Fin 105000)
    (hk : w (ix3 b 0 0) = BitVec.ofNat 32 k.val) :
    Host.gather gather_S1024x105000_S1024x1x1_S1024x1_n_1_0_0_1_2_11 x w (ix2 b 0) = x (ix2 b k) := by
  unfold Host.gather
  refine congrArg x (funext fun a => Fin.ext ?_)
  show gather_S1024x105000_S1024x1x1_S1024x1_n_1_0_0_1_2_11.start (ix2 b 0) w a
    + gather_S1024x105000_S1024x1x1_S1024x1_n_1_0_0_1_2_11.batchCoord (ix2 b 0) a
    + gather_S1024x105000_S1024x1x1_S1024x1_n_1_0_0_1_2_11.offCoord (ix2 b 0) a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 2) ∈ gather_S1024x105000_S1024x1x1_S1024x1_n_1_0_0_1_2_11.operandBatchingDims from List.mem_singleton.mpr rfl)]
    rfl
  | 1 =>
    rw [GatherDims.batchCoord_eq_zero _ _ _ (show (1 : Fin 2) ∉ [0] from by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x105000_S1024x1x1_S1024x1_n_1_0_0_1_2_11.startIndexMap from List.mem_singleton.mpr rfl)]
    have hsi : gather_S1024x105000_S1024x1x1_S1024x1_n_1_0_0_1_2_11.siIdx (ix2 b 0)
        ⟨List.idxOf (1 : Fin 2) gather_S1024x105000_S1024x1x1_S1024x1_n_1_0_0_1_2_11.startIndexMap,
          List.idxOf_lt_length_iff.2 (List.mem_singleton.mpr rfl)⟩ = ix3 b 0 0 := by
      funext d
      refine Fin.ext ?_
      match d with
      | ⟨0, _⟩ => rfl
      | ⟨1, _⟩ => rfl
      | ⟨2, _⟩ => rfl
    have hmin : min (BitVec.ofNat 32 k.val).toInt.toNat (105000 - 1) = k.val := by
      rw [toInt_word k.val (by omega)]
      have := k.isLt
      omega
    refine Eq.trans ?_ hmin
    rw [← hk, ← hsi]
    rfl

variable (x : FVec Ideal S1024x64 .f32) (t : IVec S1024 32) (p : FVec Ideal S1024x2 .f32) (i : IVec S_ 32)
  (l : FVec Ideal S100000x64 .f32) (q : FVec Ideal S5000x64 .f32)

/-- The reference's row numbers, as the words its take reads, are the safe targets. -/
theorem word_apply (b : Fin 1024) (k : Fin 105000) (hk : val_main_v34 (F := Ideal) t p i (ix1 b) = BitVec.ofNat 32 k.val) :
    val_main_call3_v5 (F := Ideal) t p i (ix3 b 0 0) = BitVec.ofNat 32 k.val := by
  have hn := word_nonneg k.val (by omega)
  have e36 : val_main_v36 (F := Ideal) t p i (ix2 b 0) = BitVec.ofNat 32 k.val := by
    rw [val_main_v36_apply, ← hk]
    refine congrArg _ (funext fun a => ?_)
    match a with
    | 0 => rfl
  have e4 : val_main_call3_v4 (F := Ideal) t p i (ix2 b 0) = BitVec.ofNat 32 k.val := by
    rw [val_main_call3_v4_apply, val_main_call3_v1_apply, val_main_call3_v0_apply, val_main_call3_c_apply, e36, hn]
    rfl
  rw [val_main_call3_v5_apply, ← e4]
  refine congrArg _ (funext fun a => ?_)
  match a with
  | 0 => exact Fin.ext (by show ((b.val * 1 + 0) * 1 + 0) / 1 = b.val; omega)
  | 1 => rfl

/-- They lie in the row of logits. -/
theorem inRow_apply (b : Fin 1024) (k : Fin 105000) (hk : val_main_v34 (F := Ideal) t p i (ix1 b) = BitVec.ofNat 32 k.val) :
    val_main_call3_v12 (F := Ideal) t p i (ix2 b 0) = 1#1 := by
  have h1 := word_sge k.val (by omega)
  have h2 := word_sle k.val 104999 (by omega) (by omega) (by omega)
  have hw := word_apply t p i b k hk
  have e11 : val_main_call3_v11 (F := Ideal) t p i (ix3 b 0 0) = 1#1 := by
    rw [val_main_call3_v11_apply, val_main_call3_v7_apply, val_main_call3_v10_apply, hw]
    rw [val_main_call3_v6_apply, val_main_call3_v9_apply, val_main_call3_v8_apply]
    show IntOp.andi (IntOp.cmpi .sge (BitVec.ofNat 32 k.val) 0#32) (IntOp.cmpi .sle (BitVec.ofNat 32 k.val) 104999#32) = 1#1
    rw [h1, h2]
    rfl
  unfold val_main_call3_v12
  generalize val_main_call3_v11 (F := Ideal) t p i = y at e11 ⊢
  pointwise
  rw [Finset.univ_unique, Finset.fold_singleton]
  show IntOp.andi (y (ix3 b 0 0)) 1#1 = 1#1
  rw [e11]
  rfl

/-- The log-softmax taken along the row at the safe target is the log-softmax there. -/
theorem picked_apply (b : Fin 1024) (k : Fin 105000) (hk : val_main_v34 (F := Ideal) t p i (ix1 b) = BitVec.ofNat 32 k.val) :
    val_main_v37 (F := Ideal) x t p i l q (ix2 b 0) = val_main_v35 x l q (ix2 b k) := by
  rw [← along_apply (val_main_v35 (F := Ideal) x l q) (val_main_call3_v5 (F := Ideal) t p i) b k (word_apply t p i b k hk)]
  exact if_pos (inRow_apply t p i b k hk)

end Cert.ReferenceIdeal.Targets

end
-- ==== Proof.Blocks.lean ====
/-
  What the grid steps read: each step's columns of the two table operands are 2048 consecutive rows of the reference's
  joined table (the last step's only as far as the table goes), so its logits are the reference's.
-/
module

public import proofs.«01_k».proof.Proof.Targets
public import Idealize.ShloMosaic.Lib.Pipeline.ValueKit.Tiles

@[expose] public section

set_option maxRecDepth 16384

noncomputable section

namespace Cert.KernelIdeal.Blocks

open Idealize.ShloMosaic Idealize.ShloMosaic.TcCoe Idealize.SL.Sem
open Cert.KernelIdeal Cert.KernelIdeal.Gen Cert.KernelIdeal.Host Cert.KernelIdeal.Bodies Cert.KernelIdeal.Payload

variable (m : (ℓ : Loc nD τ sig) → Buf (Elt Ideal) ℓ) (c : Dev nD)

/-! ## The whole-array windows -/

/-- The first window's block is its whole array, at every step. -/
theorem iblk0 (t : Fin cfg0.N) : (iblk m c 0 t : Vec Ideal S64x1024 .f32) = V m c main_v39 := by
  have hz' : (fun a => win0_0.index t a * main_v39.ty.shape.size a) = fun _ => 0 := funext fun a => by fin_cases a <;> exact Nat.zero_mul _
  exact Memref.read_access_unit_zero (Elt Ideal) main_v39 hz' (fun a => by rw [congrFun hz' a]; simp) (V m c main_v39)

/-- So is the second's. -/
theorem iblk1 (t : Fin cfg0.N) : (iblk m c 1 t : Vec Ideal S64x100000 .f32) = V m c main_v40 := by
  have hz' : (fun a => win0_1.index t a * main_v40.ty.shape.size a) = fun _ => 0 := funext fun a => by fin_cases a <;> exact Nat.zero_mul _
  exact Memref.read_access_unit_zero (Elt Ideal) main_v40 hz' (fun a => by rw [congrFun hz' a]; simp) (V m c main_v40)

/-- So is the third's. -/
theorem iblk2 (t : Fin cfg0.N) : (iblk m c 2 t : Vec Ideal S64x8192 .f32) = V m c main_v44 := by
  have hz' : (fun a => win0_2.index t a * main_v44.ty.shape.size a) = fun _ => 0 := funext fun a => by fin_cases a <;> exact Nat.zero_mul _
  exact Memref.read_access_unit_zero (Elt Ideal) main_v44 hz' (fun a => by rw [congrFun hz' a]; simp) (V m c main_v44)

/-- So is the fourth's. -/
theorem iblk3 (t : Fin cfg0.N) : (iblk m c 3 t : Vec Ideal S64x1024 .f32) = V m c main_v45 := by
  have hz' : (fun a => win0_3.index t a * main_v45.ty.shape.size a) = fun _ => 0 := funext fun a => by fin_cases a <;> exact Nat.zero_mul _
  exact Memref.read_access_unit_zero (Elt Ideal) main_v45 hz' (fun a => by rw [congrFun hz' a]; simp) (V m c main_v45)

/-- So is the fifth's. -/
theorem iblk4 (t : Fin cfg0.N) : (iblk m c 4 t : Vec Ideal S1x1024 .f32) = V m c main_v46 := by
  have hz' : (fun a => win0_4.index t a * main_v46.ty.shape.size a) = fun _ => 0 := funext fun a => by fin_cases a <;> exact Nat.zero_mul _
  exact Memref.read_access_unit_zero (Elt Ideal) main_v46 hz' (fun a => by rw [congrFun hz' a]; simp) (V m c main_v46)

/-! ## The joined table -/

/-- The reference's table: the labelled rows, then the queue. -/
abbrev table (l : FVec Ideal S100000x64 .f32) (q : FVec Ideal S5000x64 .f32) : FVec Ideal Cert.ReferenceIdeal.S105000x64 .f32 :=
  Cert.ReferenceIdeal.Read.val_main_v25 (F := Ideal) l q

variable (l : FVec Ideal S100000x64 .f32) (q : FVec Ideal S5000x64 .f32)

/-- Below `100000` its rows are the labelled table's. -/
theorem table_low (n : Fin 105000) (k : Fin 64) (i : Fin 100000) (hi : i.val = n.val) : table l q (ix2 n k) = l (ix2 i k) := by
  unfold table Cert.ReferenceIdeal.Read.val_main_v25
  pointwise
  rw [dif_pos (by omega)]
  exact congrArg (fun j => l (ix2 j k)) (Fin.ext hi.symm)

/-- From `100000` on they are the queue's. -/
theorem table_high (n : Fin 105000) (k : Fin 64) (i : Fin 5000) (hi : i.val + 100000 = n.val) : table l q (ix2 n k) = q (ix2 i k) := by
  unfold table Cert.ReferenceIdeal.Read.val_main_v25
  pointwise
  rw [dif_neg (by omega)]
  exact congrArg (fun j => q (ix2 j k)) (Fin.ext (by show n.val - 100000 = i.val; omega))

/-- The kernel's third operand, its first `6696` rows: the joined table from row `98304` on. -/
theorem tail_apply (j : Fin 8192) (k : Fin 64) (n : Fin 105000) (hn : n.val = j.val + 98304) :
    tail l q (ix2 j k) = table l q (ix2 n k) := by
  have hlt := n.isLt
  unfold tail
  by_cases h : j.val < 1696
  · rw [table_low l q n k ⟨j.val + 98304, by omega⟩ hn.symm]
    pointwise
    rw [dif_pos h]
    exact congrArg (fun i => l (ix2 i k)) (Fin.ext (by first | rfl | (show 98304 + j.val = j.val + 98304; omega)))
  · rw [table_high l q n k ⟨j.val - 1696, by omega⟩ (by show j.val - 1696 + 100000 = n.val; omega)]
    pointwise
    rw [dif_neg h, dif_pos (by omega)]
    try rfl

/-! ## The columns each step reads -/

theorem off1 : ∀ t : Fin cfg0.N, t.val < 48 → k0_off1 (grid0.coords t) 0 = 0 ∧ k0_off1 (grid0.coords t) 1 = t.val * 2048 :=
  (by decide +kernel : ∀ t : Fin grid0.N, t.val < 48 → k0_off1 (grid0.coords t) 0 = 0 ∧ k0_off1 (grid0.coords t) 1 = t.val * 2048)

theorem off2 : ∀ t : Fin cfg0.N, 48 ≤ t.val → k0_off2 (grid0.coords t) 0 = 0 ∧ k0_off2 (grid0.coords t) 1 + 98304 = t.val * 2048 :=
  (by decide +kernel : ∀ t : Fin grid0.N, 48 ≤ t.val → k0_off2 (grid0.coords t) 0 = 0 ∧ k0_off2 (grid0.coords t) 1 + 98304 = t.val * 2048)

/-- The columns of the first table operand that a step reads are the table's rows. -/
theorem cols1_apply (t : Fin cfg0.N) (ht : t.val < 48) (h : cond0_1 (grid0.coords t)) (k : Fin 64) (r : Fin 2048)
    (n : Fin 105000) (hn : n.val = t.val * 2048 + r.val) :
    cols1 (grid0.coords t) h (iblk m c 1 t) (ix2 k r) = table (argL m c) (argQ m c) (ix2 n k) := by
  have ho := off1 t ht
  have hr := r.isLt
  rw [table_low _ _ n k ⟨t.val * 2048 + r.val, by omega⟩ hn.symm]
  unfold cols1
  rw [iblk1, V_lut]
  refine (View.ld_unit_apply_of (Val := Elt Ideal) (e := .f32) _ _ _ _ (ix2 k r) (ix2 k ⟨t.val * 2048 + r.val, by omega⟩ : S64x100000.Idx) fun a => ?_).trans ?_
  · match a with
    | 0 => show k.val = k0_off1 (grid0.coords t) 0 + k.val; rw [ho.1]; omega
    | 1 => show t.val * 2048 + r.val = k0_off1 (grid0.coords t) 1 + r.val; rw [ho.2]
  · pointwise

/-- So are the columns of the second table operand that the later steps read. -/
theorem cols2_apply (t : Fin cfg0.N) (ht : 48 ≤ t.val) (ht' : t.val ≤ 50) (h : cond0_2 (grid0.coords t)) (k : Fin 64) (r : Fin 2048)
    (n : Fin 105000) (hn : n.val = t.val * 2048 + r.val) :
    cols2 (grid0.coords t) h (iblk m c 2 t) (ix2 k r) = table (argL m c) (argQ m c) (ix2 n k) := by
  have ho := off2 t ht
  have hr := r.isLt
  rw [← tail_apply _ _ ⟨t.val * 2048 + r.val - 98304, by omega⟩ k n (by show n.val = t.val * 2048 + r.val - 98304 + 98304; omega)]
  unfold cols2
  rw [iblk2, V_aug]
  generalize tail (argL m c) (argQ m c) = y
  refine (View.ld_unit_apply_of (Val := Elt Ideal) (e := .f32) _ _ _ _ (ix2 k r) (ix2 k ⟨t.val * 2048 + r.val - 98304, by omega⟩ : S64x8192.Idx) fun a => ?_).trans ?_
  · match a with
    | 0 => show k.val = k0_off2 (grid0.coords t) 0 + k.val; rw [ho.1]; omega
    | 1 => show t.val * 2048 + r.val - 98304 = k0_off2 (grid0.coords t) 1 + r.val; have := ho.2; omega
  · pointwise

/-- So are, as far as the table goes, the columns that the last step reads. -/
theorem cols3_apply (t : Fin cfg0.N) (ht : t.val = 51) (k : Fin 64) (r : Fin 2048)
    (n : Fin 105000) (hn : n.val = t.val * 2048 + r.val) :
    cols3 (iblk m c 2 t) (ix2 k r) = table (argL m c) (argQ m c) (ix2 n k) := by
  have hr := r.isLt
  have hlt := n.isLt
  rw [← tail_apply _ _ ⟨6144 + r.val, by omega⟩ k n (by show n.val = 6144 + r.val + 98304; omega)]
  unfold cols3
  rw [iblk2, V_aug]
  generalize tail (argL m c) (argQ m c) = y
  refine (View.ld_unit_apply_of (Val := Elt Ideal) (e := .f32) _ _ _ _ (ix2 k r) (ix2 k ⟨6144 + r.val, by omega⟩ : S64x8192.Idx) fun a => ?_).trans ?_
  · match a with
    | 0 => show k.val = 0 + k.val; omega
    | 1 => rfl
  · pointwise

/-! ## The logits -/

/-- The reference's logits. -/
abbrev logits (x : FVec Ideal S1024x64 .f32) (l : FVec Ideal S100000x64 .f32) (q : FVec Ideal S5000x64 .f32) :
    FVec Ideal Cert.ReferenceIdeal.S1024x105000 .f32 := Cert.ReferenceIdeal.Read.val_main_v29 (F := Ideal) x l q

/-- The reference's logit of a row of the batch and a row of the table. -/
theorem reference_logits_apply (x : FVec Ideal S1024x64 .f32) (b : Fin 1024) (n : Fin 105000) :
    logits x l q (ix2 b n) = (∑ k : Fin 64, x (ix2 b k) * table l q (ix2 n k)) * scale := by
  rw [logits, Cert.ReferenceIdeal.Read.val_main_v29_apply, Cert.ReferenceIdeal.Read.val_main_v27_apply]
  generalize hT : Cert.ReferenceIdeal.Read.val_main_v26 (F := Ideal) l q = T
  have e : ∀ k : Fin 64, T (ix2 k n) = table l q (ix2 n k) := fun k => by
    rw [← hT, Cert.ReferenceIdeal.Read.val_main_v26_apply]
    exact congrArg _ (funext fun a => match a with | ⟨0, _⟩ => rfl | ⟨1, _⟩ => rfl)
  refine congrArg (· * scale) (Finset.sum_congr rfl fun k _ => ?_)
  rw [← e k]
  refine congrArg₂ (· * ·) (congrArg x ?_) (congrArg T ?_)
  · exact funext fun a => match a with | ⟨0, _⟩ => rfl | ⟨1, _⟩ => rfl
  · exact funext fun a => match a with | ⟨0, _⟩ => rfl | ⟨1, _⟩ => rfl

/-- A block of logits whose columns hold the table's row, at that row. -/
theorem block_apply (t : Fin cfg0.N) (cols : Vec Ideal S64x2048 .f32) (r : Fin 2048) (b : Fin 1024) (n : Fin 105000)
    (hc : ∀ k : Fin 64, cols (ix2 k r) = table (argL m c) (argQ m c) (ix2 n k)) :
    k0_pay5 (F := Ideal) (iblk m c 0 t) cols (ix2 r b) = logits (argX m c) (argL m c) (argQ m c) (ix2 b n) := by
  rw [logits_apply, reference_logits_apply]
  refine congrArg (· * scale) (Finset.sum_congr rfl fun k _ => ?_)
  rw [hc k, iblk0, V_xt, mul_comm]
  refine congrArg (· * _) ?_
  pointwise

end Cert.KernelIdeal.Blocks

end
-- ==== Proof.Steps.lean ====
/-
  The grid's invariant: after step `n` each lane's running maximum and running sum carry the logits of the first
  `2048 (n + 1)` table rows, and the last step adds the remaining rows' and forms the loss.
-/
module

public import proofs.«01_k».proof.Proof.Blocks

@[expose] public section

set_option maxRecDepth 16384

noncomputable section

namespace Cert.KernelIdeal.Steps

open Idealize.ShloMosaic Idealize.ShloMosaic.TcCoe Idealize.SL.Sem
open Cert.KernelIdeal Cert.KernelIdeal.Gen Cert.KernelIdeal.Host Cert.KernelIdeal.Bodies Cert.KernelIdeal.Payload
open Cert.KernelIdeal.Blocks Cert.Softmax

variable (m : (ℓ : Loc nD τ sig) → Buf (Elt Ideal) ℓ) (c : Dev nD)

/-- Columns that hold, from row `2048 t` on, the joined table's rows. -/
def Holds (t : Fin cfg0.N) (cols : Vec Ideal S64x2048 .f32) : Prop :=
  ∀ (k : Fin 64) (r : Fin 2048) (n : Fin 105000), n.val = t.val * 2048 + r.val →
    cols (ix2 k r) = table (argL m c) (argQ m c) (ix2 n k)

/-- What a step that carries the maximum `p` and the sum `s` on leaves, its columns holding the table's rows. -/
def Carried (t : Fin cfg0.N) (p s : Vec Ideal S1x1024 .f32) : Prop :=
  ∃ cols : Vec Ideal S64x2048 .f32, Holds m c t cols
    ∧ (outsAt0 m c t.val t.isLt).1 = k0_pay5 (F := Ideal) (iblk m c 0 t) cols
    ∧ (outsAt0 m c t.val t.isLt).2.2.1 = k0_pay9 (F := Ideal) (k0_pay5 (F := Ideal) (iblk m c 0 t) cols) p
    ∧ (outsAt0 m c t.val t.isLt).2.2.2 = k0_pay10 (F := Ideal) (k0_pay5 (F := Ideal) (iblk m c 0 t) cols) p s

/-- The first step carries on from minus infinity and zero. -/
theorem step_first (t : Fin cfg0.N) (ht : t.val = 0) : Carried m c t (k0_pay1 (F := Ideal)) (k0_pay2 (F := Ideal)) := by
  have h0 : t.val % 52 = 0 := by omega
  have h1 : t.val < 48 := by omega
  have h2 : ¬(48 ≤ t.val % 52 ∧ t.val % 52 ≤ 50) := by omega
  have h3 : ¬t.val % 52 = 51 := by omega
  have e := outsAt0_A m c t h0 h1 h2 h3
  have h := case_A c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) scM0_1 (Memref.isWhole_whole _)
    (iblk m c 0 t) (iblk m c 1 t) (iblk m c 2 t) (iblk m c 3 t) (iblk m c 4 t)
    ((hcond0_0 t).mpr h0) ((hcond0_1 t).mpr h1) (fun h => h2 ((hcond0_2 t).mp h)) (fun h => h3 ((hcond0_3 t).mp h))
  refine ⟨cols1 (grid0.coords t) ((hcond0_1 t).mpr h1) (iblk m c 1 t),
    fun k r n hn => cols1_apply m c t h1 ((hcond0_1 t).mpr h1) k r n hn, ?_⟩
  obtain ⟨ha, hb, hd⟩ := h
  rw [ha, hb, hd] at e
  rw [e]
  exact ⟨rfl, rfl, rfl⟩

/-- What the step before left in the running maximum. -/
abbrev prevMax (t : Fin cfg0.N) : Vec Ideal S1x1024 .f32 :=
  (outsAt0 m c (t.val - 1) (Nat.lt_of_le_of_lt (Nat.sub_le _ _) t.isLt)).2.2.1
/-- What the step before left in the running sum. -/
abbrev prevSum (t : Fin cfg0.N) : Vec Ideal S1x1024 .f32 :=
  (outsAt0 m c (t.val - 1) (Nat.lt_of_le_of_lt (Nat.sub_le _ _) t.isLt)).2.2.2

/-- The other steps on the first table operand carry on from the step before. -/
theorem step_low (t : Fin cfg0.N) (ht : 0 < t.val) (h1 : t.val < 48) : Carried m c t (prevMax m c t) (prevSum m c t) := by
  have h0 : ¬t.val % 52 = 0 := by omega
  have h2 : ¬(48 ≤ t.val % 52 ∧ t.val % 52 ≤ 50) := by omega
  have h3 : ¬t.val % 52 = 51 := by omega
  have e := outsAt0_B m c t h0 h1 h2 h3
  have h := case_B c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) scM0_1 (Memref.isWhole_whole _)
    (iblk m c 0 t) (iblk m c 1 t) (iblk m c 2 t) (iblk m c 3 t) (iblk m c 4 t) (prevMax m c t) (prevSum m c t)
    (fun h => h0 ((hcond0_0 t).mp h)) ((hcond0_1 t).mpr h1) (fun h => h2 ((hcond0_2 t).mp h)) (fun h => h3 ((hcond0_3 t).mp h))
  refine ⟨cols1 (grid0.coords t) ((hcond0_1 t).mpr h1) (iblk m c 1 t),
    fun k r n hn => cols1_apply m c t h1 ((hcond0_1 t).mpr h1) k r n hn, ?_⟩
  obtain ⟨ha, hb, hd⟩ := h
  rw [ha, hb, hd] at e
  rw [e]
  exact ⟨rfl, rfl, rfl⟩

/-- So do the steps on the second table operand, but the last. -/
theorem step_high (t : Fin cfg0.N) (ht : 48 ≤ t.val) (ht' : t.val ≤ 50) : Carried m c t (prevMax m c t) (prevSum m c t) := by
  have h0 : ¬t.val % 52 = 0 := by omega
  have h1 : ¬t.val < 48 := by omega
  have h2 : 48 ≤ t.val % 52 ∧ t.val % 52 ≤ 50 := by omega
  have h3 : ¬t.val % 52 = 51 := by omega
  have e := outsAt0_C m c t h0 h1 h2 h3
  have h := case_C c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) scM0_1 (Memref.isWhole_whole _)
    (iblk m c 0 t) (iblk m c 1 t) (iblk m c 2 t) (iblk m c 3 t) (iblk m c 4 t) (prevMax m c t) (prevSum m c t)
    (fun h => h0 ((hcond0_0 t).mp h)) (fun h => h1 ((hcond0_1 t).mp h)) ((hcond0_2 t).mpr h2) (fun h => h3 ((hcond0_3 t).mp h))
  rw [logits11, max16, sum15] at h
  refine ⟨cols2 (grid0.coords t) ((hcond0_2 t).mpr h2) (iblk m c 2 t),
    fun k r n hn => cols2_apply m c t ht ht' ((hcond0_2 t).mpr h2) k r n hn, ?_⟩
  obtain ⟨ha, hb, hd⟩ := h
  rw [ha, hb, hd] at e
  rw [e]
  exact ⟨rfl, rfl, rfl⟩

/-- The last step: its logits, and the loss from them and from what the step before left. -/
theorem step_last (t : Fin cfg0.N) (ht : t.val = 51) : ∃ cols : Vec Ideal S64x2048 .f32, Holds m c t cols
    ∧ (outsAt0 m c t.val t.isLt).1 = k0_pay5 (F := Ideal) (iblk m c 0 t) cols
    ∧ (outsAt0 m c t.val t.isLt).2.1 = k0_pay4 (F := Ideal)
        (k0_pay19 (F := Ideal) (k0_pay5 (F := Ideal) (iblk m c 0 t) cols) (prevMax m c t) (prevSum m c t))
        (k0_pay20 (F := Ideal) (iblk m c 0 t) (iblk m c 3 t)) (iblk m c 4 t) := by
  have h0 : ¬t.val % 52 = 0 := by omega
  have h1 : ¬t.val < 48 := by omega
  have h2 : ¬(48 ≤ t.val % 52 ∧ t.val % 52 ≤ 50) := by omega
  have h3 : t.val % 52 = 51 := by omega
  have e := outsAt0_D m c t h0 h1 h2 h3
  have h := case_D c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) scM0_1 (Memref.isWhole_whole _)
    (iblk m c 0 t) (iblk m c 1 t) (iblk m c 2 t) (iblk m c 3 t) (iblk m c 4 t) (prevMax m c t) (prevSum m c t)
    (fun h => h0 ((hcond0_0 t).mp h)) (fun h => h1 ((hcond0_1 t).mp h)) (fun h => h2 ((hcond0_2 t).mp h)) ((hcond0_3 t).mpr h3)
  rw [logits18] at h
  refine ⟨cols3 (iblk m c 2 t), fun k r n hn => cols3_apply m c t ht k r n hn, ?_⟩
  obtain ⟨ha, hb⟩ := h
  rw [ha, hb] at e
  rw [e]
  exact ⟨rfl, rfl⟩

/-- Every step leaves, in the block of logits, the reference's logits of its table rows. -/
theorem logits_block (t : Fin cfg0.N) (r : Fin 2048) (b : Fin 1024) (n : Fin 105000) (hn : n.val = t.val * 2048 + r.val) :
    (outsAt0 m c t.val t.isLt).1 (ix2 r b) = logits (argX m c) (argL m c) (argQ m c) (ix2 b n) := by
  have hN : t.val < 52 := lt_of_lt_of_eq t.isLt N_0
  have key : ∀ cols : Vec Ideal S64x2048 .f32, Holds m c t cols →
      (outsAt0 m c t.val t.isLt).1 = k0_pay5 (F := Ideal) (iblk m c 0 t) cols →
      (outsAt0 m c t.val t.isLt).1 (ix2 r b) = logits (argX m c) (argL m c) (argQ m c) (ix2 b n) := fun cols hc e => by
    rw [e]
    exact block_apply m c t cols r b n fun k => hc k r n hn
  by_cases h0 : t.val = 0
  · obtain ⟨cols, hc, e, -⟩ := step_first m c t h0
    exact key cols hc e
  · by_cases h1 : t.val < 48
    · obtain ⟨cols, hc, e, -⟩ := step_low m c t (by omega) h1
      exact key cols hc e
    · by_cases h2 : t.val ≤ 50
      · obtain ⟨cols, hc, e, -⟩ := step_high m c t (by omega) h2
        exact key cols hc e
      · obtain ⟨cols, hc, e, -⟩ := step_last m c t (by omega)
        exact key cols hc e

variable (ℓ : Fin 1024 → ℕ → ℝ)
  (hℓ : ∀ (b : Fin 1024) (n : Fin 105000), logits (argX m c) (argL m c) (argQ m c) (ix2 b n) = ((ℓ b n.val : ℝ) : EReal))

include hℓ in
/-- A step that carries on from a state carrying the rows before it carries its own rows too. -/
theorem carries_step (t : Fin cfg0.N) (ht : t.val ≤ 50) (p s : Vec Ideal S1x1024 .f32) (h : Carried m c t p s) (b : Fin 1024)
    (hC : Carries (ℓ b) (t.val * 2048) (p (ix2 0 b)) (s (ix2 0 b))) :
    Carries (ℓ b) (t.val * 2048 + 2048) ((outsAt0 m c t.val t.isLt).2.2.1 (ix2 0 b)) ((outsAt0 m c t.val t.isLt).2.2.2 (ix2 0 b)) := by
  obtain ⟨cols, hc, -, e1, e2⟩ := h
  rw [e1, e2, max_apply, sum_apply]
  refine hC.step le_rfl (by omega) (fun k => k0_pay5 (F := Ideal) (iblk m c 0 t) cols (ix2 k b)) (fun k => ?_) rfl
  have hk := k.isLt
  rw [if_pos hk, block_apply m c t cols k b ⟨t.val * 2048 + k.val, by omega⟩ fun f => hc f k _ rfl, hℓ]

include hℓ in
/-- After step `n`, not the last, every lane carries the first `2048 (n + 1)` rows' logits. -/
theorem carries : ∀ (n : ℕ) (h : n < cfg0.N), n ≤ 50 → ∀ b : Fin 1024,
    Carries (ℓ b) (n * 2048 + 2048) ((outsAt0 m c n h).2.2.1 (ix2 0 b)) ((outsAt0 m c n h).2.2.2 (ix2 0 b))
  | 0, h, hn, b => carries_step m c ℓ hℓ ⟨0, h⟩ (by simp) _ _ (step_first m c ⟨0, h⟩ rfl) b
      (Or.inl ⟨by simp, max0_apply b, sum0_apply b⟩)
  | n + 1, h, hn, b => by
    have ih := carries n (Nat.lt_of_succ_lt h) (by omega) b
    have hS : Carried m c ⟨n + 1, h⟩ (prevMax m c ⟨n + 1, h⟩) (prevSum m c ⟨n + 1, h⟩) := by
      by_cases h1 : n + 1 < 48
      · exact step_low m c ⟨n + 1, h⟩ (Nat.succ_pos n) h1
      · exact step_high m c ⟨n + 1, h⟩ (Nat.le_of_not_lt h1) hn
    refine carries_step m c ℓ hℓ ⟨n + 1, h⟩ hn _ _ hS b ?_
    show Carries (ℓ b) ((n + 1) * 2048) _ _
    rw [Nat.succ_mul]
    exact ih

include hℓ in
/-- So the last step's log-sum-exp of a lane is the log-sum-exp of the whole row of logits. -/
theorem last_lse (t : Fin cfg0.N) (ht : t.val = 51) (cols : Vec Ideal S64x2048 .f32) (hc : Holds m c t cols) (b : Fin 1024) :
    k0_pay19 (F := Ideal) (k0_pay5 (F := Ideal) (iblk m c 0 t) cols) (prevMax m c t) (prevSum m c t) (ix2 0 b)
      = ((lse (ℓ b) 105000 : ℝ) : EReal) := by
  have hC : Carries (ℓ b) 104448 (prevMax m c t (ix2 0 b)) (prevSum m c t (ix2 0 b)) := by
    have h := carries m c ℓ hℓ (t.val - 1) (Nat.lt_of_le_of_lt (Nat.sub_le _ _) t.isLt) (by omega) b
    rwa [show (t.val - 1) * 2048 + 2048 = 104448 by omega] at h
  rw [lse_apply]
  refine Carries.lse (hC.step (v := 552) (n := 2048) (by omega) (by omega)
    (fun k => masked (k0_pay5 (F := Ideal) (iblk m c 0 t) cols) (ix2 k b)) (fun k => ?_) rfl) (by omega)
  have hk := k.isLt
  rw [masked_apply]
  by_cases h : k.val < 552
  · rw [if_pos h, if_pos h, block_apply m c t cols k b ⟨104448 + k.val, by omega⟩
      fun f => hc f k _ (by show 104448 + k.val = t.val * 2048 + k.val; omega), hℓ]
  · rw [if_neg h, if_neg h]

/-- The fifth operand's row holds the entries' weights. -/
theorem weight_row (t : Fin cfg0.N) (b : Fin 1024) :
    iblk m c 4 t (ix2 0 b) = weights (argT m c) (argP m c) (argI m c) (argW m c) (ix1 b) := by
  rw [show iblk m c 4 t (ix2 0 b) = V m c main_v46 (ix2 0 b) from congrFun (iblk4 m c t) _, V_w]
  generalize weights (argT m c) (argP m c) (argI m c) (argW m c) = y
  pointwise

/-- The kernel's product of the embeddings with their targets' rows, summed and scaled, is the logit at the target. -/
theorem target_logit (t : Fin cfg0.N) (b : Fin 1024) (k : Fin 100000) (n : Fin 105000) (hkn : k.val = n.val)
    (hk : safe (argT m c) (argP m c) (argI m c) (ix1 b) = BitVec.ofNat 32 k.val) :
    (∑ f : Fin 64, k0_pay20 (F := Ideal) (iblk m c 0 t) (iblk m c 3 t) (ix2 f b)) * scale
      = logits (argX m c) (argL m c) (argQ m c) (ix2 b n) := by
  rw [reference_logits_apply]
  refine congrArg (· * scale) (Finset.sum_congr rfl fun f _ => ?_)
  rw [prod_apply, iblk0, iblk3, V_xt, V_trt, Targets.taken_apply _ _ f b k hk, table_low _ _ n f k hkn]
  refine congrArg₂ (· * ·) ?_ ?_
  · pointwise
  · pointwise

include hℓ in
/-- What the last step leaves in the loss. -/
theorem loss_block (t : Fin cfg0.N) (ht : t.val = 51) (k : Fin 1024 → Fin 105000) (hk' : ∀ b, (k b).val < 100000)
    (hk : ∀ b, safe (argT m c) (argP m c) (argI m c) (ix1 b) = BitVec.ofNat 32 (k b).val) :
    (outsAt0 m c t.val t.isLt).2.1 (ix2 0 0)
      = Ideal.div (∑ b : Fin 1024, weights (argT m c) (argP m c) (argI m c) (argW m c) (ix1 b)
            * (((lse (ℓ b) 105000 : ℝ) : EReal) - logits (argX m c) (argL m c) (argQ m c) (ix2 b (k b))))
          (max (∑ b : Fin 1024, weights (argT m c) (argP m c) (argI m c) (argW m c) (ix1 b)) (Ideal.ofBits .f32 0x2B8CBCCC#32)) := by
  obtain ⟨cols, hc, -, e⟩ := step_last m c t ht
  rw [e, loss_apply]
  have hw : ∀ b : Fin 1024, iblk m c 4 t (ix2 0 b) = weights (argT m c) (argP m c) (argI m c) (argW m c) (ix1 b) := weight_row m c t
  refine congrArg₂ Ideal.div (Finset.sum_congr rfl fun b _ => ?_) (congrArg (max · _) (Finset.sum_congr rfl fun b _ => hw b))
  rw [last_lse m c ℓ hℓ t ht cols hc b, target_logit m c t b ⟨(k b).val, hk' b⟩ (k b) rfl (hk b)]
  exact congrArg (· * _) (hw b)

end Cert.KernelIdeal.Steps

end
-- ==== Proof.Arrays.lean ====
/-
  The arrays the kernel leaves: the table's rows against the embeddings, block by block, and the loss's one entry, which
  the last grid step writes.
-/
module

public import proofs.«01_k».proof.Proof.Steps
public import Idealize.ShloMosaic.Lib.Pipeline.ValueKit

@[expose] public section

set_option maxRecDepth 16384

noncomputable section

namespace Cert.KernelIdeal.Arrays

open Idealize.ShloMosaic Idealize.ShloMosaic.TcCoe Idealize.SL.Sem
open Cert.KernelIdeal Cert.KernelIdeal.Gen Cert.KernelIdeal.Host Cert.KernelIdeal.Blocks Cert.KernelIdeal.Steps
open Cert.Softmax

variable (m : (ℓ : Loc nD τ sig) → Buf (Elt Ideal) ℓ) (c : Dev nD)

/-- The logits with a table row in each row. -/
def turned (x : FVec Ideal S1024x64 .f32) (l : FVec Ideal S100000x64 .f32) (q : FVec Ideal S5000x64 .f32) :
    FVec Ideal S105000x1024 .f32 :=
  fun i => logits x l q (ix2 (i 1 : Fin 1024) (i 0 : Fin 105000))

/-- Each grid step's block of rows lies at its place. -/
theorem place5 : ∀ t : Fin cfg0.N, win0_5.index t 0 = t.val ∧ win0_5.index t 1 = 0 :=
  (by decide +kernel : ∀ t : Fin grid0.N, win0_5.index t 0 = t.val ∧ win0_5.index t 1 = 0)

/-- No block overhangs the array. -/
theorem rows5 : ∀ t : Fin cfg0.N, t.val * 2048 + win0_5.xsize (grid0.coords t) 0 ≤ 105000 :=
  (by decide +kernel : ∀ t : Fin grid0.N, t.val * 2048 + win0_5.xsize (grid0.coords t) 0 ≤ 105000)

/-- Where an entry of a block lies in the array. -/
theorem emb5 (t : Fin cfg0.N) (y : (win0_5.xblock (grid0.coords t)).Idx) (a : Fin 2) :
    ((win0_5.blk t).view.emb y a : Nat) = win0_5.index t a * S2048x1024.size a + (y a : Nat) :=
  ValueKit.view_emb_slice_whole_unit_val main_v47_0 _ _ _ y a

/-- The array's row an entry of a block lies in. -/
theorem row5 (t : Fin cfg0.N) (y : (win0_5.xblock (grid0.coords t)).Idx) :
    ((win0_5.blk t).view.emb y 0 : Nat) = t.val * 2048 + (y 0 : Nat) := by
  rw [emb5, (place5 t).1]
  rfl

/-- The array's column an entry of a block lies in. -/
theorem column5 (t : Fin cfg0.N) (y : (win0_5.xblock (grid0.coords t)).Idx) :
    ((win0_5.blk t).view.emb y 1 : Nat) = (y 1 : Nat) := by
  rw [emb5, (place5 t).2, Nat.zero_mul, Nat.zero_add]

/-- The first array ends holding the logits, a table row in each row. -/
theorem final5 : (dats m 0 c).arrAt 5 cfg0.N = turned (argX m c) (argL m c) (argQ m c) := by
  refine (dats m 0 c).arrAt_eq_of_covers 5 _ (by decide +kernel) fun t hf y => ?_
  blk_simp
  rw [after0_5]
  have h0 : (y 0 : Nat) < win0_5.xsize (grid0.coords t) 0 := (y 0).isLt
  have h1 : (y 1 : Nat) < win0_5.xsize (grid0.coords t) 1 := (y 1).isLt
  have hN : cfg0.N = 52 := N_0
  have z0 : win0_5.xsize (grid0.coords t) 0 ≤ 2048 := win0_5.xsize_le _ 0
  have z1 : win0_5.xsize (grid0.coords t) 1 ≤ 1024 := win0_5.xsize_le _ 1
  have hr : t.val * 2048 + win0_5.xsize (grid0.coords t) 0 ≤ 105000 := rows5 t
  obtain ⟨r, er⟩ : ∃ r : Nat, (y 0 : Nat) = r := ⟨_, rfl⟩
  obtain ⟨b, eb⟩ : ∃ b : Nat, (y 1 : Nat) = b := ⟨_, rfl⟩
  have hr' : r < 2048 := by omega
  have hb' : b < 1024 := by omega
  have hn' : t.val * 2048 + r < 105000 := by omega
  have ex : ((cfg0.win 5).xinj (cfg0.grid.coords t) y : S2048x1024.Idx) = ix2 (⟨r, hr'⟩ : Fin 2048) (⟨b, hb'⟩ : Fin 1024) := by
    funext a
    match a with
    | ⟨0, _⟩ => exact Fin.ext er
    | ⟨1, _⟩ => exact Fin.ext eb
  have ee : ((win0_5.blk t).view.emb y : S105000x1024.Idx)
      = ix2 (⟨t.val * 2048 + r, hn'⟩ : Fin 105000) (⟨b, hb'⟩ : Fin 1024) := by
    funext a
    match a with
    | ⟨0, _⟩ => exact Fin.ext ((row5 t y).trans (congrArg (t.val * 2048 + ·) er))
    | ⟨1, _⟩ => exact Fin.ext ((column5 t y).trans eb)
  refine (congrArg (outsAt0 m c t.val t.isLt).1 ex).trans ?_
  refine (logits_block m c t _ _ ⟨t.val * 2048 + r, hn'⟩ rfl).trans ?_
  exact (congrArg (turned (argX m c) (argL m c) (argQ m c)) ee).symm

/-- The second array ends holding what the last step leaves. -/
theorem final6 (v : EReal) (hv : ∀ t : Fin cfg0.N, t.val = 51 → (outsAt0 m c t.val t.isLt).2.1 (ix2 0 0) = v) :
    (dats m 0 c).arrAt 6 cfg0.N = fun _ => v := by
  refine (dats m 0 c).arrAt_eq_of_covers 6 _ (by decide +kernel) fun t hf y => ?_
  have hN : cfg0.N = 52 := N_0
  have ht : t.val = 51 := by have := (flush0_6 t).mp hf; have := t.isLt; omega
  blk_simp
  rw [after0_6]
  have e : y = ix2 0 0 := by
    funext a
    match a with
    | ⟨0, _⟩ | ⟨1, _⟩ => exact Subsingleton.elim (α := Fin 1) _ _
  exact (congrArg (outsAt0 m c t.val t.isLt).2.1 e).trans (hv t ht)

end Cert.KernelIdeal.Arrays

end
-- ==== Proof.Loss.lean ====
/-
  The reference's loss: its log-softmax at a target is the target's logit less the logarithm of the row's sum of
  exponentials, and the loss is the weighted mean of what that leaves.
-/
module

public import proofs.«01_k».proof.Proof.Arrays

@[expose] public section

set_option maxRecDepth 16384

noncomputable section

namespace Cert.ReferenceIdeal.Loss

open Idealize.ShloMosaic Cert.ReferenceIdeal Cert.ReferenceIdeal.Gen Cert.ReferenceIdeal.Read Cert.ReferenceIdeal.Targets Cert.Softmax
open Cert.KernelIdeal.Blocks (logits)
open Cert.KernelIdeal.Host (safe weights)

variable (x : FVec Ideal S1024x64 .f32) (t : IVec S1024 32) (p : FVec Ideal S1024x2 .f32) (i : IVec S_ 32)
  (l : FVec Ideal S100000x64 .f32) (q : FVec Ideal S5000x64 .f32) (w : FVec Ideal S105000 .f32)

/-- The maximum of a row's logits. -/
def rowMax (b : Fin 1024) : EReal := (Finset.univ : Finset (Fin 105000)).fold max ⊥ (fun k => logits x l q (ix2 b k))

/-- The sum of a row's exponentials, shifted by the row's maximum. -/
def rowSum (b : Fin 1024) : EReal := ∑ k : Fin 105000, Ideal.exp (logits x l q (ix2 b k) - rowMax x l q b)

/-- The reference's maximum of a row's logits. -/
theorem rowMax_apply (b : Fin 1024) :
    val_main_call2_v0 (F := Ideal) x l q (ix1 b)
      = rowMax x l q b := by
  unfold rowMax
  rw [← Cert.KernelIdeal.Payload.ofBits_ninf]
  unfold val_main_call2_v0 val_main_call2_cst logits
  generalize val_main_v29 (F := Ideal) x l q = y
  pointwise

/-- The maximum a row's logits are shifted by. -/
theorem shift_apply (b : Fin 1024) (k : Fin 105000) :
    val_main_call2_v4 (F := Ideal) x l q (ix2 b k)
      = rowMax x l q b := by
  rw [val_main_call2_v4_apply, val_main_call2_v3_apply, val_main_call2_v2_apply, val_main_call2_v1_apply,
    val_main_call2_cst_0_apply]
  have e : idx_main_call2_v3 (idx_main_call2_v4 (ix2 b k)) = ix1 b := by
    funext a
    match a with
    | ⟨0, _⟩ => rfl
  rw [e, rowMax_apply]
  show max (Ideal.ofBits .f32 0xFF800000#32) _ = _
  rw [Cert.KernelIdeal.Payload.ofBits_ninf]
  exact max_eq_right bot_le

/-- The sum of a row's exponentials. -/
theorem rowSum_apply (b : Fin 1024) :
    val_main_call2_v7 (F := Ideal) x l q (ix1 b)
      = rowSum x l q b := by
  rw [val_main_call2_v7_apply, val_main_call2_cst_1_apply]
  have e : ∀ k : Fin 105000, idx_main_call2_v7 (ix1 b) k = ix2 b k := fun k => by
    funext a
    match a with
    | ⟨0, _⟩ | ⟨1, _⟩ => rfl
  have z : (FloatOps.ofBits .f32 0x00000000#32 : Ideal .f32) = 0 := by
    show Ideal.ofBits .f32 0x00000000#32 = 0
    simp
  rw [z, zero_add]
  unfold rowSum
  refine Finset.sum_congr rfl fun k _ => ?_
  rw [e, val_main_call2_v6_apply, val_main_call2_v5_apply, shift_apply]
  rfl

/-- The log-softmax at an entry. -/
theorem logSoftmax_apply (b : Fin 1024) (k : Fin 105000) :
    val_main_v35 (F := Ideal) x l q (ix2 b k)
      = logits x l q (ix2 b k) - rowMax x l q b
        - Ideal.log (rowSum x l q b) := by
  rw [val_main_v35_apply, val_main_call2_v5_apply, shift_apply, val_main_call2_v10_apply, val_main_call2_v9_apply,
    val_main_call2_v8_apply]
  have e : idx_main_call2_v8 (idx_main_call2_v10 (ix2 b k)) = ix1 b := by
    funext a
    match a with
    | ⟨0, _⟩ => rfl
  rw [e, rowSum_apply]
  generalize rowSum x l q b = s
  generalize rowMax x l q b = u
  show FloatOps.subf (FloatOps.subf (logits x l q (ix2 b k)) u) (FloatOps.hostUnary .log s) = _
  generalize logits x l q (ix2 b k) = v
  rfl

variable (ℓ : Fin 1024 → ℕ → ℝ) (hℓ : ∀ b (n : Fin 105000), logits x l q (ix2 b n) = ((ℓ b n.val : ℝ) : EReal))
  (k : Fin 1024 → Fin 105000) (hk : ∀ b, safe t p i (ix1 b) = BitVec.ofNat 32 (k b).val)
include hℓ hk

/-- The loss of one embedding. -/
theorem nll_apply (b : Fin 1024) :
    val_main_v39 (F := Ideal) x t p i l q (ix1 b) = ((lse (ℓ b) 105000 : ℝ) : EReal) - logits x l q (ix2 b (k b)) := by
  rw [val_main_v39_apply, val_main_v38_apply]
  have e : idx_main_v38 (ix1 b) = ix2 b 0 := by
    funext a
    match a with
    | ⟨0, _⟩ => exact Fin.ext (Nat.div_one b.val)
    | ⟨1, _⟩ => rfl
  rw [e, picked_apply x t p i l q b (k b) (hk b), logSoftmax_apply]
  unfold rowSum
  exact neg_logSoftmax (ℓ b) (fun n => logits x l q (ix2 b n)) (hℓ b) (by omega) (k b) rfl

/-- The reference's loss, on logits that are real numbers. -/
theorem loss_apply (j : S_.Idx) :
    val_main_v53 (F := Ideal) x t p i l q w j
      = Ideal.div (∑ b, weights t p i w (ix1 b) * (((lse (ℓ b) 105000 : ℝ) : EReal) - logits x l q (ix2 b (k b))))
          (max (∑ b, weights t p i w (ix1 b)) (Ideal.ofBits .f32 0x2B8CBCCC#32)) := by
  have z : (FloatOps.ofBits .f32 0x00000000#32 : Ideal .f32) = 0 := by
    show Ideal.ofBits .f32 0x00000000#32 = 0
    simp
  have s : ∀ f : S1024.Idx → EReal, ∑ j : S1024.Idx, f j = ∑ b : Fin 1024, f (ix1 b) := fun f => sum_idx1 f
  rw [val_main_v53_apply, val_main_v52_apply, val_main_v50_apply, val_main_v49_apply, val_main_cst_10_apply,
    val_main_cst_11_apply, val_main_cst_12_apply, z, zero_add, zero_add, s, s]
  simp only [val_main_v51_apply, nll_apply x t p i l q ℓ hℓ k hk]
  rfl

end Cert.ReferenceIdeal.Loss

end
-- ==== Proof.Finite.lean ====
/-
  What the precondition gives: every entry of the embeddings, the table and the queue is a real number, so is every
  logit, and each target is below the table's length.
-/
module

public import proofs.«01_k».proof.Proof.Loss
public import proofs.«01_k».proof.Defs
public import proofs.«01_k».proof.Proof.Gen.Pre_finite_table

@[expose] public section

set_option maxRecDepth 16384

noncomputable section

namespace Cert.KernelIdeal.Finite

open Idealize.ShloMosaic Idealize.ShloMosaic.TcCoe Idealize.SL.Sem
open Cert.KernelIdeal Cert.KernelIdeal.Gen Cert.KernelIdeal.Host Cert.KernelIdeal.Blocks Cert.KernelIdeal.Payload Cert.Softmax

/-- The word of plus infinity. -/
theorem ofBits_inf : Ideal.ofBits .f32 0x7F800000#32 = (⊤ : EReal) := by
  simp [Ideal.ofBits, Ideal.ieee, -EReal.coe_mul]

/-- An entry whose absolute value compares below infinity is a real number. -/
theorem real_of_lt {s : Shape} (v : FVec Ideal s .f32) (u : FVec Ideal s .f32) (j : s.Idx) (hu : u j = (⊤ : EReal))
    (h : cmpf .olt (Host.absf v) u j = 1#1) : ∃ r : ℝ, v j = (r : EReal) := by
  have h' : Ideal.cmp .olt (max (v j) (-(v j))) (u j) = 1 := h
  rw [Ideal.cmp_olt_eq_one, hu, max_lt_iff] at h'
  refine ⟨(v j).toReal, (EReal.coe_toReal h'.1.ne fun e => ?_).symm⟩
  rw [e] at h'
  exact absurd h'.2 (by simp)

/-- A word that compares below another is below it as an integer. -/
theorem lt_of_slt {s : Shape} (v u : IVec s 32) (j : s.Idx) (h : cmpi .slt v u j = 1#1) : (v j).toInt < (u j).toInt := by
  have h' : BitVec.ofBool (decide ((v j).toInt < (u j).toInt)) = 1#1 := h
  by_contra hn
  rw [decide_eq_false hn] at h'
  exact absurd h' (by decide)

variable (m : (ℓ : Loc nD τ sig) → Buf (Elt Ideal) ℓ)

/-- The precondition, read. -/
theorem read (h : Cert.Pre_KernelIdeal_finite_table (hPre_finite_table := Cert.Pre_finite_table.Gen.facts) m) (c : Dev nD) :
    (∀ j, ∃ r : ℝ, argX m c j = (r : EReal)) ∧ (∀ j, ∃ r : ℝ, argL m c j = (r : EReal))
      ∧ (∀ j, ∃ r : ℝ, argQ m c j = (r : EReal)) ∧ ∀ j, (argT m c j).toInt < 100000 := by
  obtain ⟨h0, h1, h2, h3⟩ := h c
  exact ⟨fun j => real_of_lt _ _ j ofBits_inf (congrFun h0 j), fun j => real_of_lt _ _ j ofBits_inf (congrFun h1 j),
    fun j => real_of_lt _ _ j ofBits_inf (congrFun h2 j), fun j => lt_of_slt _ _ j (congrFun h3 j)⟩

/-- On real embeddings, table and queue every logit is a real number. -/
theorem logits_real (x : FVec Ideal S1024x64 .f32) (l : FVec Ideal S100000x64 .f32) (q : FVec Ideal S5000x64 .f32)
    (hx : ∀ j, ∃ r : ℝ, x j = (r : EReal)) (hl : ∀ j, ∃ r : ℝ, l j = (r : EReal)) (hq : ∀ j, ∃ r : ℝ, q j = (r : EReal)) :
    ∃ ℓ : Fin 1024 → ℕ → ℝ, ∀ b (n : Fin 105000), logits x l q (ix2 b n) = ((ℓ b n.val : ℝ) : EReal) := by
  have ht : ∀ (n : Fin 105000) (k : Fin 64), ∃ r : ℝ, table l q (ix2 n k) = (r : EReal) := fun n k => by
    by_cases hn : n.val < 100000
    · rw [table_low l q n k ⟨n.val, hn⟩ rfl]
      exact hl _
    · rw [table_high l q n k ⟨n.val - 100000, by omega⟩ (by show n.val - 100000 + 100000 = n.val; omega)]
      exact hq _
  obtain ⟨z, hz⟩ : ∃ z : ℝ, scale = (z : EReal) := ⟨30, by
    simp [scale, Ideal.ofBits, Ideal.ieee, -EReal.coe_mul]; norm_num⟩
  choose X hX using hx
  choose T hT using ht
  refine ⟨fun b n => if h : n < 105000 then (∑ k : Fin 64, X (ix2 b k) * T ⟨n, h⟩ k) * z else 0, fun b n => ?_⟩
  have e : (if h : n.val < 105000 then (∑ k : Fin 64, X (ix2 b k) * T ⟨n.val, h⟩ k) * z else 0)
      = (∑ k : Fin 64, X (ix2 b k) * T n k) * z := dif_pos n.isLt
  refine Eq.trans ?_ (congrArg (fun r : ℝ => (r : EReal)) e).symm
  rw [reference_logits_apply, hz, EReal.coe_mul, coe_sum]
  congr 1
  exact Finset.sum_congr rfl fun k _ => by rw [hX, hT, EReal.coe_mul]

end Cert.KernelIdeal.Finite

end
-- ==== Proof.Run.lean ====
/-
  The kernel's run, read: the host reshapes the loss and turns the logits, so its two results are the reference's.
-/
module

public import proofs.«01_k».proof.Proof.Finite

@[expose] public section

set_option maxRecDepth 16384

noncomputable section

namespace Cert.KernelIdeal.Run

open Idealize.ShloMosaic Idealize.ShloMosaic.TcCoe Idealize.SL.Sem
open Cert.KernelIdeal Cert.KernelIdeal.Gen Cert.KernelIdeal.Host Cert.KernelIdeal.Blocks Cert.KernelIdeal.Arrays
open Cert.ReferenceIdeal.Read (val_main_v29 val_main_v53)

variable (m : (ℓ : Loc nD τ sig) → Buf (Elt Ideal) ℓ)

/-- No two windows share an array. -/
theorem arrays_distinct : Function.Injective (Pipeline.arrRef spec0) := by decide

/-- The last host lines leave the loss's array reshaped. -/
theorem tail_loss (c : Dev nD) :
    Pipeline.afterTail₀ cfgs (dats m) 0 (V0 m) [hostOps1] c main_v48
      = shapeCast S_ ((dats m 0 c).arrAt 6 cfg0.N : FVec Ideal S1x1 .f32) shapeCasts_S1x1_S_ := by
  unfold Pipeline.afterTail₀
  simp only [hostOps1, List.flatten_cons, List.flatten_nil, List.append_nil, List.cons_append, List.nil_append]
  after_results_simp
  exact congrArg (fun v : FVec Ideal S1x1 .f32 => shapeCast S_ v shapeCasts_S1x1_S_)
    (Pipeline.withArrays_arr spec0 arrays_distinct c (V0 m c) _ 6)

/-- The last host lines leave the logits' array transposed. -/
theorem tail_logits (c : Dev nD) :
    Pipeline.afterTail₀ cfgs (dats m) 0 (V0 m) [hostOps1] c main_v49
      = transpose S1024x105000 [1, 0] ((dats m 0 c).arrAt 5 cfg0.N : FVec Ideal S105000x1024 .f32)
          transposes_S105000x1024_S1024x105000_1_0 := by
  unfold Pipeline.afterTail₀
  simp only [hostOps1, List.flatten_cons, List.flatten_nil, List.append_nil, List.cons_append, List.nil_append]
  after_results_simp
  exact congrArg (fun v : FVec Ideal S105000x1024 .f32 => transpose S1024x105000 [1, 0] v transposes_S105000x1024_S1024x105000_1_0)
    (Pipeline.withArrays_arr spec0 arrays_distinct c (V0 m c) _ 5)

/-- The transposed rows are the reference's logits. -/
theorem turned_back (x : FVec Ideal S1024x64 .f32) (l : FVec Ideal S100000x64 .f32) (q : FVec Ideal S5000x64 .f32) :
    transpose S1024x105000 [1, 0] (turned x l q) transposes_S105000x1024_S1024x105000_1_0 = val_main_v29 (F := Ideal) x l q := by
  funext j
  show logits x l q _ = logits x l q j
  congr 1
  funext a
  match a with
  | ⟨0, _⟩ | ⟨1, _⟩ => rfl

/-- The loss the kernel's last step leaves is the reference's. -/
theorem loss_eq (h : Cert.Pre_KernelIdeal_finite_table (hPre_finite_table := Cert.Pre_finite_table.Gen.facts) m) (c : Dev nD) :
    shapeCast S_ ((dats m 0 c).arrAt 6 cfg0.N : FVec Ideal S1x1 .f32) shapeCasts_S1x1_S_
      = val_main_v53 (F := Ideal) (argX m c) (argT m c) (argP m c) (argI m c) (argL m c) (argQ m c) (argW m c) := by
  obtain ⟨hx, hl, hq, ht⟩ := Finite.read m h c
  obtain ⟨ℓ, hℓ⟩ := Finite.logits_real _ _ _ hx hl hq
  choose k hk using fun b => Targets.safe_word (argT m c) (argP m c) (argI m c) b (ht (ix1 b))
  obtain ⟨k', hk'⟩ : ∃ k' : Fin 1024 → Fin 105000, ∀ b, (k' b).val = (k b).val :=
    ⟨fun b => ⟨(k b).val, by have := (k b).isLt; omega⟩, fun b => rfl⟩
  have hs : ∀ b, safe (argT m c) (argP m c) (argI m c) (ix1 b) = BitVec.ofNat 32 (k' b).val := fun b => by rw [hk', hk]
  rw [final6 m c _ fun t ht => Steps.loss_block m c ℓ hℓ t ht k' (fun b => by rw [hk']; exact (k b).isLt) hs]
  funext j
  exact (Cert.ReferenceIdeal.Loss.loss_apply _ _ _ _ _ _ _ ℓ hℓ k' hs j).symm

/-- The run: both results at the reference's terms of the arguments, the arguments unchanged. -/
theorem run (g : Dev nD → PrngReg)
    (h : Cert.Pre_KernelIdeal_finite_table (hPre_finite_table := Cert.Pre_finite_table.Gen.facts) m) :
    θ_run (defs (F := Ideal)) (onTc (τ := τ) (main (F := Ideal))) ⟨m, fun _ => 0, g⟩ fun r => ∀ c : Dev nD,
      r.2.mem ((c : Thread nD τ).loc main_v48)
          = val_main_v53 (F := Ideal) (argX m c) (argT m c) (argP m c) (argI m c) (argL m c) (argQ m c) (argW m c)
      ∧ r.2.mem ((c : Thread nD τ).loc main_v49) = val_main_v29 (F := Ideal) (argX m c) (argL m c) (argQ m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run (defs (F := Ideal)) _ _).mono (fun r hr c => ⟨?_, ?_,
    ((hr c).2 main_arg0 (Pipeline.mem_restRefs_of main_arg0 (by decide) (by decide))).trans (W_main_arg0 m (dats m) c),
    ((hr c).2 main_arg1 (Pipeline.mem_restRefs_of main_arg1 (by decide) (by decide))).trans (W_main_arg1 m (dats m) c),
    ((hr c).2 main_arg2 (Pipeline.mem_restRefs_of main_arg2 (by decide) (by decide))).trans (W_main_arg2 m (dats m) c),
    ((hr c).2 main_arg3 (Pipeline.mem_restRefs_of main_arg3 (by decide) (by decide))).trans (W_main_arg3 m (dats m) c),
    ((hr c).2 main_arg4 (Pipeline.mem_restRefs_of main_arg4 (by decide) (by decide))).trans (W_main_arg4 m (dats m) c),
    ((hr c).2 main_arg5 (Pipeline.mem_restRefs_of main_arg5 (by decide) (by decide))).trans (W_main_arg5 m (dats m) c),
    ((hr c).2 main_arg6 (Pipeline.mem_restRefs_of main_arg6 (by decide) (by decide))).trans (W_main_arg6 m (dats m) c)⟩)
    (run_main m g)
  · exact ((hr c).2 main_v48 (Pipeline.mem_restRefs_of main_v48 (by decide) (by decide))).trans
      ((tail_loss m c).trans (loss_eq m h c))
  · exact ((hr c).2 main_v49 (Pipeline.mem_restRefs_of main_v49 (by decide) (by decide))).trans
      ((tail_logits m c).trans (by rw [final5]; exact turned_back _ _ _))

end Cert.KernelIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_table
public import proofs.«01_k».proof.Proof.Run
public import Idealize.ShloMosaic.Adequacy
public import Idealize.ShloMosaic.Init

@[expose] public section

noncomputable section

namespace Cert.Proof

open Idealize.ShloMosaic Idealize.SL.Sem Cert.Kernel

/-- The reference runs and leaves its arguments unchanged and every counter at zero. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The kernel's two results are the reference's. -/
theorem values : Cert.algebraic_KernelIdeal_ReferenceIdeal_pre_finite_table
    (hPre_finite_table := Cert.Pre_finite_table.Gen.facts) := fun m g m' g' h e =>
  ⟨_, _, Cert.KernelIdeal.Run.run m g h, by
    refine (θ_run Cert.ReferenceIdeal.defs _ _).mono (fun r hr c => ⟨(hr c).1.trans ?_, (hr c).2.1.trans ?_, (hr c).2.2⟩)
      (Cert.ReferenceIdeal.Value.run (F := Ideal) m' g')
    · obtain ⟨e0, e1, e2, e3, e4, e5, e6⟩ := e c
      rw [Cert.ReferenceIdeal.Read.val_main_v53_eq, e0, e1, e2, e3, e4, e5, e6]
    · obtain ⟨e0, -, -, -, e4, e5, -⟩ := e c
      rw [Cert.ReferenceIdeal.Read.val_main_v29_eq, e0, e4, e5]⟩

/-- Everything claimed. -/
theorem claim : Cert.Claim :=
  ⟨Cert.Kernel.Gen.facts, Cert.KernelIdeal.Gen.facts, Cert.ReferenceIdeal.Gen.facts, Cert.Pre_finite_table.Gen.facts,
    fun m g _ => Cert.Kernel.Gen.frame m g, fun m g _ => Cert.KernelIdeal.Gen.frame m g,
    fun m g _ => Cert.KernelIdeal.Gen.frame m g, frame_reference, fun m g _ => frame_reference m g trivial, trivial, values⟩

end Cert.Proof

end
